-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 2048]⟩ ⟨2, ![64, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![8192, 4096]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 4096]⟩ ⟨2, ![8192, 4096]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 4096]⟩ ⟨2, ![8192, 4096]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 2048]⟩ ⟨2, ![64, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x4096 : Shape := ⟨2, ![2048, 4096]⟩
abbrev S4096x2048 : Shape := ⟨2, ![4096, 2048]⟩
abbrev S2x2048x1024 : Shape := ⟨3, ![2, 2048, 1024]⟩
abbrev S4x1024x2048 : Shape := ⟨3, ![4, 1024, 2048]⟩
abbrev S3x64x1024 : Shape := ⟨3, ![3, 64, 1024]⟩
abbrev S64x1024 : Shape := ⟨2, ![64, 1024]⟩
abbrev S2 : Shape := ⟨1, ![2]⟩
abbrev S4 : Shape := ⟨1, ![4]⟩
abbrev S3 : Shape := ⟨1, ![3]⟩
abbrev S1 : Shape := ⟨1, ![1]⟩
abbrev S_ : Shape := ⟨0, ![]⟩
abbrev S1x2048x1024 : Shape := ⟨3, ![1, 2048, 1024]⟩
abbrev S2048x1024 : Shape := ⟨2, ![2048, 1024]⟩
abbrev S1x64x1024 : Shape := ⟨3, ![1, 64, 1024]⟩
abbrev S1x1024x2048 : Shape := ⟨3, ![1, 1024, 2048]⟩
abbrev S1024x2048 : Shape := ⟨2, ![1024, 2048]⟩

abbrev nBuf : Space → Nat
  | .hbm => 8
  | .vmem => 10
  | .smem => 0
  | _ => 0

abbrev bufTy : (tb : Table) → Fin (tcTables nBuf tb) → BufTy
  | .hbm, ⟨0, _⟩ => ⟨S64x2048, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S64x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S2x2048x1024, .f32⟩
  | .local _ .vmem, ⟨5, _⟩ => ⟨S4x1024x2048, .f32⟩
  | .local _ .vmem, ⟨6, _⟩ => ⟨S3x64x1024, .bf16⟩
  | .local _ .vmem, ⟨7, _⟩ => ⟨S3x64x1024, .bf16⟩
  | .local _ .vmem, ⟨8, _⟩ => ⟨S3x64x1024, .bf16⟩
  | .local _ .vmem, ⟨9, _⟩ => ⟨S64x1024, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) (c1_i32_0 : BitVec 32) : Fin 2 → Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32 : BitVec 32 := 1024#32
  let v69 : BitVec 32 := Scalar.muli v13 c1024_i32
  ![0, v69.toNat]
def k0_dev1 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_51 : BitVec 32 := 1#32
  let v82 : BitVec 32 := Scalar.muli v13 c1_i32_51
  let v83 : BitVec 32 := Scalar.addi c0_i32_52 v82
  v83.toNat
def k0_dev2 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_54 : BitVec 32 := 1#32
  let v84 : BitVec 32 := Scalar.muli v24 c1_i32_54
  let v85 : BitVec 32 := Scalar.addi c0_i32_55 v84
  v85.toNat
def k0_dev3 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_57 : BitVec 32 := 1#32
  let v86 : BitVec 32 := Scalar.muli v35 c1_i32_57
  let v87 : BitVec 32 := Scalar.addi c0_i32_58 v86
  v87.toNat
def k0_dev4 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_76 : BitVec 32 := 1#32
  let v102 : BitVec 32 := Scalar.muli v13 c1_i32_76
  let v103 : BitVec 32 := Scalar.addi c0_i32_77 v102
  v103.toNat
def k0_dev5 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_103 : BitVec 32 := 1#32
  let v130 : BitVec 32 := Scalar.muli v24 c1_i32_103
  let v131 : BitVec 32 := Scalar.addi c0_i32_104 v130
  v131.toNat
def k0_off2 (d0 : Dev nD) : Fin 2 → Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_109 : BitVec 32 := 1024#32
  let v140 : BitVec 32 := Scalar.muli v2 c1024_i32_109
  ![0, v140.toNat]
def k0_dev6 (d0 : Dev nD) : Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_130 : BitVec 32 := 1#32
  let v158 : BitVec 32 := Scalar.muli v35 c1_i32_130
  let v159 : BitVec 32 := Scalar.addi c0_i32_131 v158
  v159.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_136 : BitVec 32 := 1024#32
  let v168 : BitVec 32 := Scalar.muli v2 c1024_i32_136
  let c0_i32_141 : BitVec 32 := 0#32
  ![v168.toNat, 0]
def k0_off4 (d0 : Dev nD) (c3_i32_18 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v36 : BitVec 32 := Scalar.addi v2 c3_i32_18
  let c4_i32_19 : BitVec 32 := 4#32
  let c0_i32_20 : BitVec 32 := 0#32
  let v37 : BitVec 1 := Scalar.cmpi .eq c4_i32_19 c0_i32_20
  let c1_i32_21 : BitVec 32 := 1#32
  let v38 : BitVec 32 := Scalar.select v37 c1_i32_21 c4_i32_19
  let v39 : BitVec 32 := Scalar.remsi v36 v38
  let c0_i32_23 : BitVec 32 := 0#32
  let v41 : BitVec 1 := Scalar.cmpi .slt v39 c0_i32_23
  let c0_i32_24 : BitVec 32 := 0#32
  let v42 : BitVec 1 := Scalar.cmpi .slt v38 c0_i32_24
  let v43 : BitVec 1 := Scalar.xori v41 v42
  let c0_i32_22 : BitVec 32 := 0#32
  let v40 : BitVec 1 := Scalar.cmpi .ne v39 c0_i32_22
  let v44 : BitVec 1 := Scalar.andi v43 v40
  let v45 : BitVec 32 := Scalar.addi v39 v38
  let v46 : BitVec 32 := Scalar.select v44 v45 v39
  let c1024_i32_142 : BitVec 32 := 1024#32
  let v174 : BitVec 32 := Scalar.muli v46 c1024_i32_142
  let c0_i32_147 : BitVec 32 := 0#32
  ![v174.toNat, 0]
def k0_dev7 (d0 : Dev nD) : Nat :=
  let c0_i32_254 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_253 : BitVec 32 := 1#32
  let v272 : BitVec 32 := Scalar.muli v13 c1_i32_253
  let v273 : BitVec 32 := Scalar.addi c0_i32_254 v272
  v273.toNat
def k0_dev8 (d0 : Dev nD) : Nat :=
  let c0_i32_261 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_260 : BitVec 32 := 1#32
  let v280 : BitVec 32 := Scalar.muli v24 c1_i32_260
  let v281 : BitVec 32 := Scalar.addi c0_i32_261 v280
  v281.toNat
def k0_dev9 (d0 : Dev nD) : Nat :=
  let c0_i32_268 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_267 : BitVec 32 := 1#32
  let v288 : BitVec 32 := Scalar.muli v35 c1_i32_267
  let v289 : BitVec 32 := Scalar.addi c0_i32_268 v288
  v289.toNat
def k0_dev10 (d0 : Dev nD) : Nat :=
  let c0_i32_375 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_374 : BitVec 32 := 1#32
  let v386 : BitVec 32 := Scalar.muli v13 c1_i32_374
  let v387 : BitVec 32 := Scalar.addi c0_i32_375 v386
  v387.toNat
def k0_dev11 (d0 : Dev nD) : Nat :=
  let c0_i32_403 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_402 : BitVec 32 := 1#32
  let v414 : BitVec 32 := Scalar.muli v24 c1_i32_402
  let v415 : BitVec 32 := Scalar.addi c0_i32_403 v414
  v415.toNat
def k0_dev12 (d0 : Dev nD) : Nat :=
  let c0_i32_431 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_430 : BitVec 32 := 1#32
  let v442 : BitVec 32 := Scalar.muli v35 c1_i32_430
  let v443 : BitVec 32 := Scalar.addi c0_i32_431 v442
  v443.toNat
def k0_dev13 (d0 : Dev nD) : Nat :=
  let c0_i32_554 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_553 : BitVec 32 := 1#32
  let v556 : BitVec 32 := Scalar.muli v13 c1_i32_553
  let v557 : BitVec 32 := Scalar.addi c0_i32_554 v556
  v557.toNat
def k0_dev14 (d0 : Dev nD) : Nat :=
  let c0_i32_561 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_560 : BitVec 32 := 1#32
  let v564 : BitVec 32 := Scalar.muli v24 c1_i32_560
  let v565 : BitVec 32 := Scalar.addi c0_i32_561 v564
  v565.toNat
def k0_dev15 (d0 : Dev nD) : Nat :=
  let c0_i32_568 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_567 : BitVec 32 := 1#32
  let v572 : BitVec 32 := Scalar.muli v35 c1_i32_567
  let v573 : BitVec 32 := Scalar.addi c0_i32_568 v572
  v573.toNat
def k0_dev16 (d0 : Dev nD) : Nat :=
  let c0_i32_676 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_675 : BitVec 32 := 1#32
  let v670 : BitVec 32 := Scalar.muli v13 c1_i32_675
  let v671 : BitVec 32 := Scalar.addi c0_i32_676 v670
  v671.toNat
def k0_dev17 (d0 : Dev nD) : Nat :=
  let c0_i32_704 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_703 : BitVec 32 := 1#32
  let v698 : BitVec 32 := Scalar.muli v24 c1_i32_703
  let v699 : BitVec 32 := Scalar.addi c0_i32_704 v698
  v699.toNat
def k0_dev18 (d0 : Dev nD) : Nat :=
  let c0_i32_732 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_731 : BitVec 32 := 1#32
  let v726 : BitVec 32 := Scalar.muli v35 c1_i32_731
  let v727 : BitVec 32 := Scalar.addi c0_i32_732 v726
  v727.toNat
def k0_dev19 (d0 : Dev nD) : Nat :=
  let c0_i32_843 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_842 : BitVec 32 := 1#32
  let v828 : BitVec 32 := Scalar.muli v13 c1_i32_842
  let v829 : BitVec 32 := Scalar.addi c0_i32_843 v828
  v829.toNat
def k0_dev20 (d0 : Dev nD) : Nat :=
  let c0_i32_850 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_849 : BitVec 32 := 1#32
  let v836 : BitVec 32 := Scalar.muli v24 c1_i32_849
  let v837 : BitVec 32 := Scalar.addi c0_i32_850 v836
  v837.toNat
def k0_dev21 (d0 : Dev nD) : Nat :=
  let c0_i32_857 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_856 : BitVec 32 := 1#32
  let v844 : BitVec 32 := Scalar.muli v35 c1_i32_856
  let v845 : BitVec 32 := Scalar.addi c0_i32_857 v844
  v845.toNat
abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x8192 : Shape := ⟨2, ![64, 8192]⟩
abbrev S8192x4096 : Shape := ⟨2, ![8192, 4096]⟩
abbrev S4096x8192 : Shape := ⟨2, ![4096, 8192]⟩
abbrev S64x4096 : Shape := ⟨2, ![64, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S64x4096, .f32⟩
  | .hbm, ⟨8, _⟩ => ⟨S_, .f32⟩
  | .hbm, ⟨9, _⟩ => ⟨S64x4096, .f32⟩
  | .hbm, ⟨10, _⟩ => ⟨S64x4096, .f32⟩
  | .hbm, ⟨11, _⟩ => ⟨S64x8192, .f32⟩
  | .hbm, ⟨12, _⟩ => ⟨S64x4096, .f32⟩
  | .hbm, ⟨13, _⟩ => ⟨S_, .f32⟩
  | .hbm, ⟨14, _⟩ => ⟨S64x4096, .f32⟩
  | .hbm, ⟨15, _⟩ => ⟨S64x4096, .f32⟩
  | .hbm, ⟨16, _⟩ => ⟨S64x8192, .f32⟩
  | .hbm, ⟨17, _⟩ => ⟨S64x4096, .f32⟩
  | .hbm, ⟨18, _⟩ => ⟨S_, .f32⟩
  | .hbm, ⟨19, _⟩ => ⟨S64x4096, .f32⟩
  | .hbm, ⟨20, _⟩ => ⟨S64x4096, .f32⟩
  | .hbm, ⟨21, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Program.lean ====
/-
# The kernel body as a prelude and three equal layers

The printed body runs the same sequence of memory operations three times, once per layer of the network, with other
weight arrays, another source and another destination. Here that sequence is written once, generic in those, as
functions from a continuation to a program; `body_eq` states that the printed body is their composition.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Kit
public import Idealize.ShloMosaic.Lib.Tactic

@[expose] public section

noncomputable section

namespace Cert.KernelIdeal.Mlp

open Idealize.ShloMosaic Idealize.ShloMosaic.TcCoe
open Idealize.SL Idealize.SL.Sem
open Cert.KernelIdeal Cert.KernelIdeal.Gen

variable {F : FTy → Type} [FloatOps F]

/-- The device `n` places after `c` on the ring of four. -/
def shift (c : Dev nD) (n : ℕ) : Dev nD := ⟨(c.val + n) % 4, Nat.mod_lt _ (by decide)⟩

/-- The device that copy `k` of device `c` goes to. -/
def peer (c : Dev nD) (k : Fin 3) : Dev nD := shift c (k.val + 1)

/-! ## Slots and semaphores -/

theorem inbW : ∀ (k : Fin 2) (a : Fin 3), (![k.val, 0, 0] : Fin 3 → Nat) a + S1x2048x1024.size a ≤ S2x2048x1024.size a := by decide
theorem inbO : ∀ (k : Fin 4) (a : Fin 3), (![k.val, 0, 0] : Fin 3 → Nat) a + S1x1024x2048.size a ≤ S4x1024x2048.size a := by decide
theorem inbC : ∀ (k : Fin 3) (a : Fin 3), (![k.val, 0, 0] : Fin 3 → Nat) a + S1x64x1024.size a ≤ S3x64x1024.size a := by decide
theorem inbS2 : ∀ (k : Fin 2) (a : Fin 1), (![k.val] : Fin 1 → Nat) a + S1.size a ≤ S2.size a := by decide
theorem inbS3 : ∀ (k : Fin 3) (a : Fin 1), (![k.val] : Fin 1 → Nat) a + S1.size a ≤ S3.size a := by decide
theorem inbS4 : ∀ (k : Fin 4) (a : Fin 1), (![k.val] : Fin 1 → Nat) a + S1.size a ≤ S4.size a := by decide
theorem wordsC : ∀ k : Fin 3, (Rect.unit (s := S3x64x1024) ![k.val, 0, 0] S1x64x1024.size (inbC k)).WholeWords (EltTy.packing .bf16) := by decide
theorem packedC : ∀ k : Fin 3, (Rect.unit (s := S3x64x1024) ![k.val, 0, 0] S1x64x1024.size (inbC k)).PackedRows (EltTy.packing .bf16) := by decide

abbrev rW (k : Fin 2) : Rect S2x2048x1024 := Rect.unit ![k.val, 0, 0] S1x2048x1024.size (inbW k)
abbrev rO (k : Fin 4) : Rect S4x1024x2048 := Rect.unit ![k.val, 0, 0] S1x1024x2048.size (inbO k)
abbrev rC (k : Fin 3) : Rect S3x64x1024 := Rect.unit ![k.val, 0, 0] S1x64x1024.size (inbC k)
abbrev rX : Rect S64x2048 := Rect.unit ![0, 0] S64x2048.size inb_S64x2048_S64x2048_0_0
abbrev rH : Rect S64x1024 := Rect.unit ![0, 0] S64x1024.size inb_S64x1024_S64x1024_0_0

/-- The tiles a block of the first weight matrix lands in. -/
abbrev winB : Memref sig .tc .vmem S2x2048x1024 .f32 := Memref.whole cc0_scratch2
/-- The tiles a block of the second weight matrix lands in. -/
abbrev woutB : Memref sig .tc .vmem S4x1024x2048 .f32 := Memref.whole cc0_scratch3
/-- The partial products being sent, what the others' partial products land in, what the others' hidden blocks land
    in, and the own hidden block. -/
abbrev sB : Memref sig .tc .vmem S3x64x1024 .bf16 := Memref.whole cc0_scratch4
abbrev rB : Memref sig .tc .vmem S3x64x1024 .bf16 := Memref.whole cc0_scratch5
abbrev gB : Memref sig .tc .vmem S3x64x1024 .bf16 := Memref.whole cc0_scratch6
abbrev hB : Memref sig .tc .vmem S64x1024 .bf16 := Memref.whole cc0_scratch7

abbrev winS (k : Fin 2) : Memref sig .tc .vmem S1x2048x1024 .f32 := winB.slice (rW k) (fun _ => rfl)
abbrev woutS (k : Fin 4) : Memref sig .tc .vmem S1x1024x2048 .f32 := woutB.slice (rO k) (fun _ => rfl)
abbrev chS (b : Memref sig .tc .vmem S3x64x1024 .bf16) (k : Fin 3) : Memref sig .tc .vmem S1x64x1024 .bf16 := b.slice (rC k) (fun _ => rfl)
abbrev winT (k : Fin 2) : Memref sig .tc .vmem S2048x1024 .f32 := (winS k).squeeze S2048x1024 squeezes_S1x2048x1024_S2048x1024
abbrev woutT (k : Fin 4) : Memref sig .tc .vmem S1024x2048 .f32 := (woutS k).squeeze S1024x2048 squeezes_S1x1024x2048_S1024x2048
abbrev chT (b : Memref sig .tc .vmem S3x64x1024 .bf16) (k : Fin 3) : Memref sig .tc .vmem S64x1024 .bf16 := (chS b k).squeeze S64x1024 squeezes_S1x64x1024_S64x1024

/-- The semaphores, by number. -/
def winSem (k : Fin 2) : DmaSem sig := ((cc0_scratch8.slice (Rect.unit (s := S2) ![k.val] S1.size (inbS2 k))).squeeze S_ squeezes_S1_S_).sem
def woutSem (k : Fin 4) : DmaSem sig := ((cc0_scratch9.slice (Rect.unit (s := S4) ![k.val] S1.size (inbS4 k))).squeeze S_ squeezes_S1_S_).sem
def rsS (k : Fin 3) : DmaSem sig := ((cc0_scratch10.slice (Rect.unit (s := S3) ![k.val] S1.size (inbS3 k))).squeeze S_ squeezes_S1_S_).sem
def rsR (k : Fin 3) : DmaSem sig := ((cc0_scratch11.slice (Rect.unit (s := S3) ![k.val] S1.size (inbS3 k))).squeeze S_ squeezes_S1_S_).sem
def agS (k : Fin 3) : DmaSem sig := ((cc0_scratch12.slice (Rect.unit (s := S3) ![k.val] S1.size (inbS3 k))).squeeze S_ squeezes_S1_S_).sem
def agR (k : Fin 3) : DmaSem sig := ((cc0_scratch13.slice (Rect.unit (s := S3) ![k.val] S1.size (inbS3 k))).squeeze S_ squeezes_S1_S_).sem
/-- The barrier semaphore. -/
def barSem : Sem sig := (SemArray.scalar (sig.barrier 0 rfl) : Sems sig S_).sem

/-- Programs of the body's kind. -/
abbrev Pg (F : FTy → Type) [FloatOps F] := Prog (TpuEff nD τ sig (Elt F) Λ₀ .tc) PUnit

/-! ## Single operations before a continuation -/

/-- Where the block of columns of the first weight matrix that step `j` uses starts (`j = 3`: the own one). -/
def offW (c : Dev nD) : Fin 4 → Fin 2 → Nat
  | 0 => k0_off1 c 1#32
  | 1 => k0_off1 c 2#32
  | 2 => k0_off1 c 3#32
  | 3 => k0_off2 c
/-- Where the block of rows of the second weight matrix that tile `j` takes starts (`j = 0`: the own one). -/
def offO (c : Dev nD) : Fin 4 → Fin 2 → Nat
  | 0 => k0_off3 c
  | 1 => k0_off4 c 3#32
  | 2 => k0_off4 c 1#32
  | 3 => k0_off4 c 2#32
theorem offW_inb (c : Dev nD) : ∀ (j : Fin 4) (a : Fin 2), offW c j a + S2048x1024.size a ≤ S2048x4096.size a
  | 0 => k0_off1_inb c 0
  | 1 => k0_off1_inb c 1
  | 2 => k0_off1_inb c 2
  | 3 => k0_off2_inb c
theorem offO_inb (c : Dev nD) : ∀ (j : Fin 4) (a : Fin 2), offO c j a + S1024x2048.size a ≤ S4096x2048.size a
  | 0 => k0_off3_inb c
  | 1 => k0_off4_inb c 2
  | 2 => k0_off4_inb c 0
  | 3 => k0_off4_inb c 1

/-- Those blocks, as windows of the matrices. -/
abbrev winWin (m : Memref sig .tc .hbm S2048x4096 .f32) (c : Dev nD) (j : Fin 4) : Memref sig .tc .hbm S2048x1024 .f32 :=
  m.slice (Rect.unit (s := S2048x4096) (offW c j) S2048x1024.size (offW_inb c j)) (fun _ => rfl)
abbrev woutWin (m : Memref sig .tc .hbm S4096x2048 .f32) (c : Dev nD) (j : Fin 4) : Memref sig .tc .hbm S1024x2048 .f32 :=
  m.slice (Rect.unit (s := S4096x2048) (offO c j) S1024x2048.size (offO_inb c j)) (fun _ => rfl)

theorem winWin_exact (m : Memref sig .tc .hbm S2048x4096 .f32) (c : Dev nD) (j : Fin 4) : (winWin m c j).view.WordExact := View.wordExact_bits rfl
theorem woutWin_exact (m : Memref sig .tc .hbm S4096x2048 .f32) (c : Dev nD) (j : Fin 4) : (woutWin m c j).view.WordExact := View.wordExact_bits rfl
theorem winT_exact (k : Fin 2) : (winT k).view.WordExact := (View.wordExact_bits rfl).reshape _ _
theorem woutT_exact (k : Fin 4) : (woutT k).view.WordExact := (View.wordExact_bits rfl).reshape _ _
theorem sT_exact (k : Fin 3) : (chT sB k).view.WordExact := ((Memref.isWhole_whole _).wordExact_slice rfl _ (wordsC k)).reshape _ _
theorem rT_exact (k : Fin 3) : (chT rB k).view.WordExact := ((Memref.isWhole_whole _).wordExact_slice rfl _ (wordsC k)).reshape _ _
theorem gT_exact (k : Fin 3) : (chT gB k).view.WordExact := ((Memref.isWhole_whole _).wordExact_slice rfl _ (wordsC k)).reshape _ _
theorem hB_exact : hB.view.WordExact := (Memref.isWhole_whole _).wordExact

/-- Start the copy of weight block `j` into tile `k`. -/
def enqWin (m : Memref sig .tc .hbm S2048x4096 .f32) (c : Dev nD) (j : Fin 4) (k : Fin 2) (K : Pg F) : Pg F :=
  .op (.enqueueDma (winWin m c j) (.here (winT k)) (.dma (winSem k)) (winWin_exact m c j) (winT_exact k) ⟨Or.inl rfl, trivial⟩) fun _ => K
/-- Wait for it. -/
def waitWin (m : Memref sig .tc .hbm S2048x4096 .f32) (c : Dev nD) (j : Fin 4) (k : Fin 2) (K : Pg F) : Pg F :=
  .op (.waitDma2 (winSem k) (winWin m c j) (winT k) (winWin_exact m c j) (winT_exact k)) fun _ => K
def enqWout (m : Memref sig .tc .hbm S4096x2048 .f32) (c : Dev nD) (j : Fin 4) (K : Pg F) : Pg F :=
  .op (.enqueueDma (woutWin m c j) (.here (woutT j)) (.dma (woutSem j)) (woutWin_exact m c j) (woutT_exact j) ⟨Or.inl rfl, trivial⟩) fun _ => K
def waitWout (m : Memref sig .tc .hbm S4096x2048 .f32) (c : Dev nD) (j : Fin 4) (K : Pg F) : Pg F :=
  .op (.waitDma2 (woutSem j) (woutWin m c j) (woutT j) (woutWin_exact m c j) (woutT_exact j)) fun _ => K

def loadWin (k : Fin 2) (K : Vec F S1x2048x1024 .f32 → Pg F) : Pg F :=
  .op (.load winB (rW k).toLoadRect (View.loadsAt_vmem h_S1x2048x1024)) K
def loadWout (k : Fin 4) (K : Vec F S1x1024x2048 .f32 → Pg F) : Pg F :=
  .op (.load woutB (rO k).toLoadRect (View.loadsAt_vmem h_S1x1024x2048)) K
def loadCh (b : Memref sig .tc .vmem S3x64x1024 .bf16) (k : Fin 3) (K : Vec F S1x64x1024 .bf16 → Pg F) : Pg F :=
  .op (.load b (rC k).toLoadRect (View.loadsAt_vmem h_S1x64x1024)) K
def loadX (b : Memref sig .tc .vmem S64x2048 .f32) (K : Vec F S64x2048 .f32 → Pg F) : Pg F :=
  .op (.load b rX.toLoadRect (View.loadsAt_vmem h_S64x2048)) K
def loadH (K : Vec F S64x1024 .bf16 → Pg F) : Pg F :=
  .op (.load hB rH.toLoadRect (View.loadsAt_vmem h_S64x1024)) K
def storeS (k : Fin 3) (w : FVec F S1x64x1024 .bf16) (K : Pg F) : Pg F :=
  .op (.store sB (rC k) w Finset.univ (View.stores_vmem h_S1x64x1024 ((Memref.isWhole_whole _).storeExact_slice rfl _ (packedC k)) (fun _ => rfl)) (.inl rfl)) fun _ => K
def storeH (w : FVec F S64x1024 .bf16) (K : Pg F) : Pg F :=
  .op (.store hB rH w Finset.univ (View.stores_vmem h_S64x1024 ((Memref.isWhole_whole _).storeExact_slice rfl _ packedbf16_S64x1024_S64x1024_0_0) (fun _ => rfl)) (.inl rfl)) fun _ => K
def storeX (b : Memref sig .tc .vmem S64x2048 .f32) (w : FVec F S64x2048 .f32) (K : Pg F) : Pg F :=
  .op (.store b rX w Finset.univ (View.stores_vmem_bits_univ h_S64x2048 rfl) (.inl rfl)) fun _ => K

/-- Send partial product `k` to device `d`. -/
def sendRs (k : Fin 3) (d : Dev nD) (K : Pg F) : Pg F :=
  .op (.enqueueDma (chT sB k) (.remote (Dev.tc d) (chT rB k) (.dma (rsS k))) (.dma (rsR k)) (sT_exact k) (rT_exact k) ⟨⟨rfl, Or.inl rfl⟩, trivial⟩) fun _ => K
/-- Send the own hidden block to device `d`. -/
def sendAg (k : Fin 3) (d : Dev nD) (K : Pg F) : Pg F :=
  .op (.enqueueDma hB (.remote (Dev.tc d) (chT gB k) (.dma (agS k))) (.dma (agR k)) hB_exact (gT_exact k) ⟨⟨rfl, Or.inl rfl⟩, trivial⟩) fun _ => K
def waitRsR (k : Fin 3) (K : Pg F) : Pg F := .op (.waitDma2 (rsR k) (chT sB k) (chT rB k) (sT_exact k) (rT_exact k)) fun _ => K
def waitRsS (k : Fin 3) (K : Pg F) : Pg F := .op (.waitDma2 (rsS k) (chT rB k) (chT sB k) (rT_exact k) (sT_exact k)) fun _ => K
def waitAgR (k : Fin 3) (K : Pg F) : Pg F := .op (.waitDma2 (agR k) hB (chT gB k) hB_exact (gT_exact k)) fun _ => K
def waitAgS (k : Fin 3) (K : Pg F) : Pg F := .op (.waitDma2 (agS k) (chT gB k) hB (gT_exact k) hB_exact) fun _ => K

/-! ## A layer -/

/-- What a layer is over: its weight arrays, its source and its destination, the next layer's first weight array if
    there is a next layer, and the devices its copies go to. -/
structure Layer where
  win : Memref sig .tc .hbm S2048x4096 .f32
  wout : Memref sig .tc .hbm S4096x2048 .f32
  src : Memref sig .tc .vmem S64x2048 .f32
  dst : Memref sig .tc .vmem S64x2048 .f32
  next : Option (Memref sig .tc .hbm S2048x4096 .f32)
  rs : Fin 3 → Dev nD
  ag : Fin 3 → Dev nD

/-- Partial product `k`: computed from the tile that holds its weight block, stored, and sent. -/
def sendPart (L : Layer) (c : Dev nD) (x : FVec F S64x2048 .f32) (k : Fin 3) (t : Fin 2) (K : Pg F) : Pg F :=
  loadWin t fun w => loadCh sB k fun _ => storeS k (k0_pay2 x w) <| sendRs k (L.rs k) K

/-- The next layer's prefetch into tile `t`, if there is a next layer. -/
def prefetch (L : Layer) (c : Dev nD) (j : Fin 4) (t : Fin 2) (K : Pg F) : Pg F :=
  match L.next with
  | none => K
  | some m => enqWin m c j t K

/-- The reduce-scatter half: the three partial products out, the own one kept. -/
def rsHalf (L : Layer) (c : Dev nD) (x : FVec F S64x2048 .f32) (K : FVec F S64x1024 .f32 → Pg F) : Pg F :=
  waitWin L.win c 0 0 <| sendPart L c x 0 0 <| enqWin L.win c 2 0 <|
  waitWin L.win c 1 1 <| sendPart L c x 1 1 <| enqWin L.win c 3 1 <|
  waitWin L.win c 2 0 <| sendPart L c x 2 0 <|
  enqWout L.wout c 0 <| enqWout L.wout c 1 <| enqWout L.wout c 2 <| enqWout L.wout c 3 <|
  prefetch L c 0 0 <| waitWin L.win c 3 1 <| loadWin 1 fun w => prefetch L c 1 1 <| K (k0_pay5 x w)

/-- The hidden block: the own partial product and the three received ones, summed and clipped below at zero. -/
def hidden (own : FVec F S64x1024 .f32) (K : FVec F S64x1024 .f32 → Pg F) : Pg F :=
  waitRsR 0 <| waitRsR 1 <| waitRsR 2 <| loadCh rB 0 fun a => loadCh rB 1 fun b => loadCh rB 2 fun d =>
  loadH fun _ => storeH (k0_pay7 own a b d) <| waitRsS 0 <| waitRsS 1 <| waitRsS 2 <| K (k0_pay6 own a b d)

/-- The all-gather half: the own hidden block out, the four products with the second weight matrix summed, and stored
    after `fin` (a shape cast that changes nothing, in the first two layers). -/
def agHalf (fin : FVec F S64x2048 .f32 → FVec F S64x2048 .f32) (L : Layer) (c : Dev nD) (h : FVec F S64x1024 .f32) (K : Pg F) : Pg F :=
  sendAg 0 (L.ag 0) <| sendAg 1 (L.ag 1) <| sendAg 2 (L.ag 2) <|
  waitWout L.wout c 0 <| loadWout 0 fun w0 =>
  waitAgR 0 <| waitWout L.wout c 1 <| loadCh gB 0 fun g0 => loadWout 1 fun w1 =>
  waitAgR 2 <| waitWout L.wout c 2 <| loadCh gB 2 fun g2 => loadWout 2 fun w2 =>
  waitAgR 1 <| waitWout L.wout c 3 <| loadCh gB 1 fun g1 => loadWout 3 fun w3 =>
  loadX L.dst fun _ => storeX L.dst (fin (k0_pay18 (k0_pay18 (k0_pay18 (k0_pay8 h w0) g0 w1) g2 w2) g1 w3)) <|
  waitAgS 0 <| waitAgS 1 <| waitAgS 2 <| K

def layer (fin : FVec F S64x2048 .f32 → FVec F S64x2048 .f32) (L : Layer) (c : Dev nD) (x : FVec F S64x2048 .f32) (K : Pg F) : Pg F :=
  rsHalf L c x fun own => hidden own fun h => agHalf fin L c h K

/-- What comes before the layers: the first two weight blocks fetched, and the barrier with the three others. -/
def prelude (b : Fin 3 → Dev nD) (c : Dev nD) (K : Pg F) : Pg F :=
  enqWin (Memref.whole main_arg1) c 0 0 <| enqWin (Memref.whole main_arg1) c 1 1 <|
  .op (.semSignal (b 0, .tc) barSem ((1#32 : BitVec 32).toInt)) fun _ => .op (.semSignal (b 1, .tc) barSem ((1#32 : BitVec 32).toInt)) fun _ =>
  .op (.semSignal (b 2, .tc) barSem ((1#32 : BitVec 32).toInt)) fun _ => .op (.semWait barSem ((3#32 : BitVec 32).toInt)) fun _ => K

/-- The devices the printed words name. -/
def bars (c : Dev nD) : Fin 3 → Dev nD := ![⟨k0_dev1 c, k0_dev1_lt c⟩, ⟨k0_dev2 c, k0_dev2_lt c⟩, ⟨k0_dev3 c, k0_dev3_lt c⟩]

/-- The three layers. -/
def L0 (c : Dev nD) : Layer where
  win := Memref.whole main_arg1
  wout := Memref.whole main_arg4
  src := Memref.whole cc0_stg0_0
  dst := Memref.whole cc0_scratch0
  next := some (Memref.whole main_arg2)
  rs := ![⟨k0_dev4 c, k0_dev4_lt c⟩, ⟨k0_dev5 c, k0_dev5_lt c⟩, ⟨k0_dev6 c, k0_dev6_lt c⟩]
  ag := ![⟨k0_dev7 c, k0_dev7_lt c⟩, ⟨k0_dev8 c, k0_dev8_lt c⟩, ⟨k0_dev9 c, k0_dev9_lt c⟩]
def L1 (c : Dev nD) : Layer where
  win := Memref.whole main_arg2
  wout := Memref.whole main_arg5
  src := Memref.whole cc0_scratch0
  dst := Memref.whole cc0_scratch1
  next := some (Memref.whole main_arg3)
  rs := ![⟨k0_dev10 c, k0_dev10_lt c⟩, ⟨k0_dev11 c, k0_dev11_lt c⟩, ⟨k0_dev12 c, k0_dev12_lt c⟩]
  ag := ![⟨k0_dev13 c, k0_dev13_lt c⟩, ⟨k0_dev14 c, k0_dev14_lt c⟩, ⟨k0_dev15 c, k0_dev15_lt c⟩]
def L2 (c : Dev nD) : Layer where
  win := Memref.whole main_arg3
  wout := Memref.whole main_arg6
  src := Memref.whole cc0_scratch1
  dst := Memref.whole cc0_stg1_0
  next := none
  rs := ![⟨k0_dev16 c, k0_dev16_lt c⟩, ⟨k0_dev17 c, k0_dev17_lt c⟩, ⟨k0_dev18 c, k0_dev18_lt c⟩]
  ag := ![⟨k0_dev19 c, k0_dev19_lt c⟩, ⟨k0_dev20 c, k0_dev20_lt c⟩, ⟨k0_dev21 c, k0_dev21_lt c⟩]

/-- The whole body: the device read, the prelude, and the layers, each after the load of its source. -/
def body : Pg F :=
  .op .deviceId fun c => prelude (bars c) c <|
    loadX (L0 c).src fun x => layer k0_pay1 (L0 c) c (k0_pay1 x) <|
    loadX (L1 c).src fun x => layer k0_pay1 (L1 c) c x <|
    loadX (L2 c).src fun x => layer id (L2 c) c x <| .ret ⟨⟩

set_option maxRecDepth 65536 in
/-- The printed body is that one. -/
theorem body_eq (t : Fin cfg0.N) : bodyAt0 (F := F) t = body (F := F) := by
  rw [fin_N0 t]
  chain_rfl

end Cert.KernelIdeal.Mlp

end
-- ==== Proof.Protocol.lean ====
/-
# The protocol of the four devices

What every buffer holds at every step, as functions of the launch memory; the schedule of the thirteen semaphores of a
device that other devices' copies and signals count on; and the levels at which a device waits while it still owes.

A landing slot is handed to its writer before the copy that fills it: the partial products' slots with the barrier in
the first layer, and with the previous layer's hidden block in the later ones; the hidden blocks' slots with the partial
product of the same layer.
-/
module

public import proofs.«01_k».proof.Proof.Program
public import Idealize.ShloMosaic.Lib.Pipeline.Launch
public import Idealize.ShloMosaic.Lib.Pipeline.Kit
public import Idealize.ShloMosaic.Lib.Tactic

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 3)
abbrev UU : Type := UR sig nD τ × (UB × Counters)

local notation "𝕄" => MT nD τ sig ℕ (Elt F) ℕ UU ℕ

abbrev EP : Emb (UR sig nD τ) (MT nD τ sig ℕ (Elt F) ℕ UU ℕ) := embL
/-- The protocol's copy of the rounds algebra: the left half of the right factor. -/
def ER : Emb UB (MT nD τ sig ℕ (Elt F) ℕ UU ℕ) := (Emb.inl : Emb UB (UB × Counters)).trans embR
instance ER_landsIn : (ER : Emb UB 𝕄).LandsIn (upEmb : UEmb _ 𝕄) := by unfold ER; infer_instance
abbrev EC : UEmb Counters (MT nD τ sig ℕ (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

theorem peer_rev (c : Dev nD) (k : Fin 3) : peer (peer c k) k.rev = c := by revert c k; decide
theorem rev_peer (c : Dev nD) (k : Fin 3) : peer (peer c k.rev) k = c := by revert c k; decide
theorem bars_eq (c : Dev nD) (k : Fin 3) : bars c k = peer c k := by revert c k; decide +kernel
theorem L0_rs (c : Dev nD) (k : Fin 3) : (L0 c).rs k = peer c k := by revert c k; decide +kernel
theorem L1_rs (c : Dev nD) (k : Fin 3) : (L1 c).rs k = peer c k := by revert c k; decide +kernel
theorem L2_rs (c : Dev nD) (k : Fin 3) : (L2 c).rs k = peer c k := by revert c k; decide +kernel
theorem L0_ag (c : Dev nD) (k : Fin 3) : (L0 c).ag k = peer c k := by revert c k; decide +kernel
theorem L1_ag (c : Dev nD) (k : Fin 3) : (L1 c).ag k = peer c k := by revert c k; decide +kernel
theorem L2_ag (c : Dev nD) (k : Fin 3) : (L2 c).ag k = peer c k := by revert c k; decide +kernel

/-! ## Cells -/

abbrev barCell (c : Dev nD) : GSem nD τ sig := ((c : Thread nD τ), .reg barSem)
abbrev rsSC (c : Dev nD) (k : Fin 3) : GSem nD τ sig := ((c : Thread nD τ), .dma (rsS k))
abbrev rsRC (c : Dev nD) (k : Fin 3) : GSem nD τ sig := ((c : Thread nD τ), .dma (rsR k))
abbrev agSC (c : Dev nD) (k : Fin 3) : GSem nD τ sig := ((c : Thread nD τ), .dma (agS k))
abbrev agRC (c : Dev nD) (k : Fin 3) : GSem nD τ sig := ((c : Thread nD τ), .dma (agR k))

/-- What a semaphore counts. -/
inductive Role where
  | bar
  | rsS (k : Fin 3)
  | rsR (k : Fin 3)
  | agS (k : Fin 3)
  | agR (k : Fin 3)
  | other
deriving DecidableEq

/-- The role of a semaphore, from its number. -/
def role : SemLoc sig → Role
  | .reg s => if s = barSem then .bar else .other
  | .dma s =>
    if s = Mlp.rsS 0 then .rsS 0 else if s = Mlp.rsS 1 then .rsS 1 else if s = Mlp.rsS 2 then .rsS 2
    else if s = Mlp.rsR 0 then .rsR 0 else if s = Mlp.rsR 1 then .rsR 1 else if s = Mlp.rsR 2 then .rsR 2
    else if s = Mlp.agS 0 then .agS 0 else if s = Mlp.agS 1 then .agS 1 else if s = Mlp.agS 2 then .agS 2
    else if s = Mlp.agR 0 then .agR 0 else if s = Mlp.agR 1 then .agR 1 else if s = Mlp.agR 2 then .agR 2
    else .other

theorem role_bar : role (.reg barSem) = .bar := by decide +kernel
theorem role_rsS (k : Fin 3) : role (.dma (rsS k)) = .rsS k := by revert k; decide +kernel
theorem role_rsR (k : Fin 3) : role (.dma (rsR k)) = .rsR k := by revert k; decide +kernel
theorem role_agS (k : Fin 3) : role (.dma (agS k)) = .agS k := by revert k; decide +kernel
theorem role_agR (k : Fin 3) : role (.dma (agR k)) = .agR k := by revert k; decide +kernel

/-- The credit of one block on the wire. -/
abbrev N : ℕ := (hB : Memref sig .tc .vmem S64x1024 .bf16).view.dmaCredit
theorem N_pos : 0 < N := View.dmaCredit_pos _ (by decide)

/-! ## Contents -/

/-- The weight arrays, by layer. -/
def aWin : ℕ → Memref sig .tc .hbm S2048x4096 .f32
  | 0 => Memref.whole main_arg1
  | 1 => Memref.whole main_arg2
  | _ => Memref.whole main_arg3
def aWout : ℕ → Memref sig .tc .hbm S4096x2048 .f32
  | 0 => Memref.whole main_arg4
  | 1 => Memref.whole main_arg5
  | _ => Memref.whole main_arg6

/-- Contents under one leading axis of length one. -/
def upW (v : S2048x1024.Idx → Elt F .f32) : S1x2048x1024.Idx → Elt F .f32 :=
  fun x => v ((Shape.reshapeEquiv squeezes_S1x2048x1024_S2048x1024.numel_eq).symm x)
def upO (v : S1024x2048.Idx → Elt F .f32) : S1x1024x2048.Idx → Elt F .f32 :=
  fun x => v ((Shape.reshapeEquiv squeezes_S1x1024x2048_S1024x2048.numel_eq).symm x)
def upC (v : S64x1024.Idx → Elt F .bf16) : S1x64x1024.Idx → Elt F .bf16 :=
  fun x => v ((Shape.reshapeEquiv squeezes_S1x64x1024_S64x1024.numel_eq).symm x)

/-- The weight blocks a device fetches. -/
def wt (ℓ : ℕ) (c : Dev nD) (j : Fin 4) : S1x2048x1024.Idx → Elt F .f32 :=
  upW ((winWin (aWin ℓ) c j).view.read (Elt F) (m ((winWin (aWin ℓ) c j).view.loc (c : Thread nD τ))))
def wo (ℓ : ℕ) (c : Dev nD) (j : Fin 4) : S1x1024x2048.Idx → Elt F .f32 :=
  upO ((woutWin (aWout ℓ) c j).view.read (Elt F) (m ((woutWin (aWout ℓ) c j).view.loc (c : Thread nD τ))))

section OverX

variable (ℓ : ℕ) (X : Dev nD → FVec F S64x2048 .f32)

/-- What a device sends, keeps, receives and computes in one layer, from every device's input to it. -/
def partX (c : Dev nD) (k : Fin 3) : FVec F S1x64x1024 .bf16 := k0_pay2 (X c) (wt m ℓ c k.castSucc)
def ownX (c : Dev nD) : FVec F S64x1024 .f32 := k0_pay5 (X c) (wt m ℓ c 3)
def gotX (c : Dev nD) (k : Fin 3) : FVec F S1x64x1024 .bf16 := partX m ℓ X (peer c k.rev) k
def hidX (c : Dev nD) : FVec F S64x1024 .f32 := k0_pay6 (ownX m ℓ X c) (gotX m ℓ X c 0) (gotX m ℓ X c 1) (gotX m ℓ X c 2)
def sentX (c : Dev nD) : FVec F S64x1024 .bf16 := k0_pay7 (ownX m ℓ X c) (gotX m ℓ X c 0) (gotX m ℓ X c 1) (gotX m ℓ X c 2)
def hgotX (c : Dev nD) (k : Fin 3) : FVec F S1x64x1024 .bf16 := upC (sentX m ℓ X (peer c k.rev))
def outX (c : Dev nD) : FVec F S64x2048 .f32 :=
  k0_pay18 (k0_pay18 (k0_pay18 (k0_pay8 (hidX m ℓ X c) (wo m ℓ c 0)) (hgotX m ℓ X c 0) (wo m ℓ c 1)) (hgotX m ℓ X c 2) (wo m ℓ c 2))
    (hgotX m ℓ X c 1) (wo m ℓ c 3)

end OverX

/-- A device's block of the input, as it is staged. -/
def xstg (c : Dev nD) : (cc0_stg0_0 : Ref sig .tc).ty.Contents (Elt F) :=
  (win0_0.blk (0 : Fin 1)).view.read (Elt F) ((s₀ m ρ).mem ((c : Thread nD τ).loc main_arg0))

/-- Every device's input to layer `ℓ`. -/
def xin : ℕ → Dev nD → FVec F S64x2048 .f32
  | 0 => fun c => xstg m ρ c
  | ℓ + 1 => outX m ℓ (xin ℓ)

/-! ## The schedule -/

/-- A slot of a device, at any contents. -/
def anyAt (c : Dev nD) (b : Memref sig .tc .vmem S3x64x1024 .bf16) (k : Fin 3) : sProp 𝕄 :=
  iprop(∃ f, ((chS b k).view.loc (c : Thread nD τ) ↦[(chS b k).view.set]{fullShare} f))
instance anyAt_storable (c : Dev nD) (b : Memref sig .tc .vmem S3x64x1024 .bf16) (k : Fin 3) :
    BI.Storable (upEmb : UEmb _ 𝕄) (anyAt (F := F) c b k) := by unfold anyAt; infer_instance

/-- The shares the own hidden block is sent at. -/
def sh3 : Fin 3 → PosShare TreeShare
  | 0 => fullShare.left
  | 1 => fullShare.right.left
  | 2 => fullShare.right.right

/-- What device `c` needs to send partial product `k` of layer `ℓ`: the slot it lands in and the round it counts in.
    After the last layer: its own landing slot `k`. -/
def slotR (ℓ : ℕ) (c : Dev nD) (k : Fin 3) : sProp 𝕄 :=
  if ℓ < 3 then iprop(anyAt (peer c k) rB k ∗ reached ER (rsRC (peer c k) k) ℓ) else anyAt c rB k
/-- The same handed on by a hidden block's copy in layer `ℓ`. -/
def backR (ℓ : ℕ) (c : Dev nD) (k : Fin 3) : sProp 𝕄 :=
  if ℓ < 3 then iprop(anyAt (peer c k) rB k ∗ reached ER (rsRC (peer c k) k) ℓ) else iprop(emp)
/-- What device `c` needs to send its hidden block `k` of layer `ℓ`. -/
def slotG (ℓ : ℕ) (c : Dev nD) (k : Fin 3) : sProp 𝕄 :=
  iprop(anyAt (peer c k) gB k ∗ reached ER (agRC (peer c k) k) ℓ)

def rsRPay (c : Dev nD) (k : Fin 3) (ℓ : ℕ) : sProp 𝕄 :=
  iprop(owns (c : Thread nD τ) (chS rB k) fullShare (gotX m ℓ (xin m ρ ℓ) c k) ∗ slotG ℓ c k.rev)
def agSPay (c : Dev nD) (k : Fin 3) (ℓ : ℕ) : sProp 𝕄 :=
  owns (c : Thread nD τ) hB (sh3 k) (sentX m ℓ (xin m ρ ℓ) c)
def agRPay (c : Dev nD) (k : Fin 3) (ℓ : ℕ) : sProp 𝕄 :=
  iprop(owns (c : Thread nD τ) (chS gB k) fullShare (hgotX m ℓ (xin m ρ ℓ) c k) ∗ backR (ℓ + 1) c k.rev)

instance slotG_storable (ℓ : ℕ) (c : Dev nD) (k : Fin 3) : BI.Storable (upEmb : UEmb _ 𝕄) (slotG (F := F) ℓ c k) := by
  unfold slotG; infer_instance
instance backR_storable (ℓ : ℕ) (c : Dev nD) (k : Fin 3) : BI.Storable (upEmb : UEmb _ 𝕄) (backR (F := F) ℓ c k) := by
  unfold backR; split <;> infer_instance
instance slotR_storable (ℓ : ℕ) (c : Dev nD) (k : Fin 3) : BI.Storable (upEmb : UEmb _ 𝕄) (slotR (F := F) ℓ c k) := by
  unfold slotR; split <;> infer_instance
instance rsRPay_storable (c : Dev nD) (k : Fin 3) (ℓ : ℕ) : BI.Storable (upEmb : UEmb _ 𝕄) (rsRPay (F := F) m ρ c k ℓ) := by
  unfold rsRPay; infer_instance
instance agSPay_storable (c : Dev nD) (k : Fin 3) (ℓ : ℕ) : BI.Storable (upEmb : UEmb _ 𝕄) (agSPay (F := F) m ρ c k ℓ) := by
  unfold agSPay; infer_instance
instance agRPay_storable (c : Dev nD) (k : Fin 3) (ℓ : ℕ) : BI.Storable (upEmb : UEmb _ 𝕄) (agRPay (F := F) m ρ c k ℓ) := by
  unfold agRPay; infer_instance

/-- How many rounds a semaphore has, and its duties in one. -/
def dutiesOf : Role → ℕ → Finset (Fin 3)
  | .bar, r => if r < 1 then Finset.univ else ∅
  | .rsS _, r | .rsR _, r | .agS _, r | .agR _, r => if r < 3 then {0} else ∅
  | .other, _ => ∅
/-- What a duty hands over. -/
def payOf (c : Dev nD) : Role → ℕ → Fin 3 → sProp 𝕄
  | .bar, _, d => slotR 0 c d
  | .rsS k, _, _ => anyAt c sB k
  | .rsR k, r, _ => rsRPay m ρ c k r
  | .agS k, r, _ => agSPay m ρ c k r
  | .agR k, r, _ => agRPay m ρ c k r
  | .other, _, _ => iprop(emp)

/-- The schedule: a barrier cell has one round of three duties, one unit each, duty `d` paid by `peer c d`; a cell of a
    copy has a round per layer, of one duty of a block's credit. -/
def Rd : Rounds.Schedule (GSem nD τ sig) (Fin 3) 𝕄 where
  duties g r := if g.1.2 = .tc then dutiesOf (role g.2) r else ∅
  unitless _ := False
  amount g _ _ := if role g.2 = .bar then 1 else N
  payload g r d := payOf m ρ g.1.1 (role g.2) r d
  amount_pos g _ _ _ := by
    by_cases h : role g.2 = .bar
    · rw [if_pos h]; exact Nat.one_pos
    · rw [if_neg h]; exact N_pos

instance payOf_storable (c : Dev nD) (R : Role) (r : ℕ) (d : Fin 3) : BI.Storable (upEmb : UEmb _ 𝕄) (payOf (F := F) m ρ c R r d) := by
  cases R <;> dsimp only [payOf] <;> infer_instance
instance Rd_payload_storable (g : GSem nD τ sig) (r : ℕ) (d : Fin 3) :
    BI.Storable (upEmb : UEmb _ 𝕄) ((Rd (F := F) m ρ).payload g r d) := by
  show BI.Storable upEmb (payOf m ρ g.1.1 (role g.2) r d); infer_instance

section Sched
variable (c : Dev nD) (k : Fin 3) (r : ℕ) (d : Fin 3)

theorem duties_bar : (Rd (F := F) m ρ).duties (barCell c) 0 = Finset.univ := by
  dsimp only [Rd]; rw [if_pos rfl, role_bar]; rfl
theorem duties_rsS (h : r < 3) : (Rd (F := F) m ρ).duties (rsSC c k) r = {0} := by
  dsimp only [Rd]; rw [if_pos rfl, role_rsS]; exact if_pos h
theorem duties_rsR (h : r < 3) : (Rd (F := F) m ρ).duties (rsRC c k) r = {0} := by
  dsimp only [Rd]; rw [if_pos rfl, role_rsR]; exact if_pos h
theorem duties_agS (h : r < 3) : (Rd (F := F) m ρ).duties (agSC c k) r = {0} := by
  dsimp only [Rd]; rw [if_pos rfl, role_agS]; exact if_pos h
theorem duties_agR (h : r < 3) : (Rd (F := F) m ρ).duties (agRC c k) r = {0} := by
  dsimp only [Rd]; rw [if_pos rfl, role_agR]; exact if_pos h
theorem duties_bar_later (h : 1 ≤ r) : (Rd (F := F) m ρ).duties (barCell c) r = ∅ := by
  dsimp only [Rd]; rw [if_pos rfl, role_bar]; exact if_neg (by omega)
theorem duties_later (sm : SemLoc sig) (h : 3 ≤ r) : (Rd (F := F) m ρ).duties ((c : Thread nD τ), sm) r = ∅ := by
  dsimp only [Rd]; rw [if_pos rfl]; cases role sm <;> dsimp only [dutiesOf] <;> first | rfl | exact if_neg (by omega)

theorem amount_bar : (Rd (F := F) m ρ).amount (barCell c) r d = 1 := by dsimp only [Rd]; exact if_pos role_bar
theorem amount_rsS : (Rd (F := F) m ρ).amount (rsSC c k) r d = N := by dsimp only [Rd]; rw [role_rsS]; exact if_neg (by simp)
theorem amount_rsR : (Rd (F := F) m ρ).amount (rsRC c k) r d = N := by dsimp only [Rd]; rw [role_rsR]; exact if_neg (by simp)
theorem amount_agS : (Rd (F := F) m ρ).amount (agSC c k) r d = N := by dsimp only [Rd]; rw [role_agS]; exact if_neg (by simp)
theorem amount_agR : (Rd (F := F) m ρ).amount (agRC c k) r d = N := by dsimp only [Rd]; rw [role_agR]; exact if_neg (by simp)

theorem payload_bar : (Rd (F := F) m ρ).payload (barCell c) r d = slotR 0 c d := by dsimp only [Rd]; rw [role_bar]; rfl
theorem payload_rsS : (Rd (F := F) m ρ).payload (rsSC c k) r d = anyAt c sB k := by dsimp only [Rd]; rw [role_rsS]; rfl
theorem payload_rsR : (Rd (F := F) m ρ).payload (rsRC c k) r d = rsRPay m ρ c k r := by dsimp only [Rd]; rw [role_rsR]; rfl
theorem payload_agS : (Rd (F := F) m ρ).payload (agSC c k) r d = agSPay m ρ c k r := by dsimp only [Rd]; rw [role_agS]; rfl
theorem payload_agR : (Rd (F := F) m ρ).payload (agRC c k) r d = agRPay m ρ c k r := by dsimp only [Rd]; rw [role_agR]; rfl

theorem expect_bar : (Rd (F := F) m ρ).expect (barCell c) 0 = 3 := by
  unfold Schedule.expect Schedule.amountOf
  rw [duties_bar, Finset.sum_congr rfl fun d _ => amount_bar m ρ c 0 d, Finset.sum_const, Finset.card_univ, Fintype.card_fin, smul_eq_mul]
theorem expect_rsS (h : r < 3) : (Rd (F := F) m ρ).expect (rsSC c k) r = N := by
  unfold Schedule.expect Schedule.amountOf; rw [duties_rsS m ρ c k r h, Finset.sum_singleton, amount_rsS]
theorem expect_rsR (h : r < 3) : (Rd (F := F) m ρ).expect (rsRC c k) r = N := by
  unfold Schedule.expect Schedule.amountOf; rw [duties_rsR m ρ c k r h, Finset.sum_singleton, amount_rsR]
theorem expect_agS (h : r < 3) : (Rd (F := F) m ρ).expect (agSC c k) r = N := by
  unfold Schedule.expect Schedule.amountOf; rw [duties_agS m ρ c k r h, Finset.sum_singleton, amount_agS]
theorem expect_agR (h : r < 3) : (Rd (F := F) m ρ).expect (agRC c k) r = N := by
  unfold Schedule.expect Schedule.amountOf; rw [duties_agR m ρ c k r h, Finset.sum_singleton, amount_agR]

theorem rest_bar : bigSep ((Rd (F := F) m ρ).duties (barCell c) 0 \ ∅) (fun d => (Rd (F := F) m ρ).payload (barCell c) 0 d)
    = iprop(slotR 0 c 0 ∗ slotR 0 c 1 ∗ slotR 0 c 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_rsS (h : r < 3) : bigSep ((Rd (F := F) m ρ).duties (rsSC c k) r \ ∅) (fun d => (Rd (F := F) m ρ).payload (rsSC c k) r d) = anyAt c sB k := by
  rw [Finset.sdiff_empty, duties_rsS m ρ c k r h, bigSep_singleton, payload_rsS]
theorem rest_rsR (h : r < 3) : bigSep ((Rd (F := F) m ρ).duties (rsRC c k) r \ ∅) (fun d => (Rd (F := F) m ρ).payload (rsRC c k) r d) = rsRPay m ρ c k r := by
  rw [Finset.sdiff_empty, duties_rsR m ρ c k r h, bigSep_singleton, payload_rsR]
theorem rest_agS (h : r < 3) : bigSep ((Rd (F := F) m ρ).duties (agSC c k) r \ ∅) (fun d => (Rd (F := F) m ρ).payload (agSC c k) r d) = agSPay m ρ c k r := by
  rw [Finset.sdiff_empty, duties_agS m ρ c k r h, bigSep_singleton, payload_agS]
theorem rest_agR (h : r < 3) : bigSep ((Rd (F := F) m ρ).duties (agRC c k) r \ ∅) (fun d => (Rd (F := F) m ρ).payload (agRC c k) r d) = agRPay m ρ c k r := by
  rw [Finset.sdiff_empty, duties_agR m ρ c k r h, bigSep_singleton, payload_agR]

end Sched

/-! ## What a device owes; the levels -/

/-- What device `c` owes the others for a block landing on each. -/
abbrev owR (c : Dev nD) (ℓ : ℕ) (k : Fin 3) : CellTallies nD τ sig ℕ := tallyAt (rsRC (peer c k) k) (2 + 2 * ℓ) N
abbrev owG (c : Dev nD) (ℓ : ℕ) (k : Fin 3) : CellTallies nD τ sig ℕ := tallyAt (agRC (peer c k) k) (3 + 2 * ℓ) N
abbrev owB (c : Dev nD) (k : Fin 3) : CellTallies nD τ sig ℕ := tallyAt (barCell (peer c k)) 1 1

/-- What it owes for the last `n` layers, the first of them summed last; -/
def owed : ℕ → Dev nD → CellTallies nD τ sig ℕ
  | 0, _ => 0
  | n + 1, c => owed n c + owG c (2 - n) 2 + owG c (2 - n) 1 + owG c (2 - n) 0 + owR c (2 - n) 2 + owR c (2 - n) 1 + owR c (2 - n) 0
/-- and at launch: three layers and the barrier. -/
def O₀ (c : Dev nD) : CellTallies nD τ sig ℕ := owed 3 c + owB c 2 + owB c 1 + owB c 0

def L (g : GSem nD τ sig) : Finset ℕ := if g.1.2 = .tc then Finset.range 8 else ∅
/-- A unit's level is its index: the barrier 1, layer `ℓ`'s partial products `2 + 2ℓ`, its hidden blocks `3 + 2ℓ`,
    everything else 0. -/
def lv (_ : GSem nD τ sig) (ι : ℕ) : ℕ := ι

theorem L_of_ne (g : GSem nD τ sig) (h : g.1.2 ≠ .tc) : L g = ∅ := if_neg h
theorem L_tc (c : Dev nD) (sm : SemLoc sig) : L ((c : Thread nD τ), sm) = Finset.range 8 := if_pos rfl

/-- Everything owed is on a core of the mesh, at a level above `n`. -/
def Above (n : ℕ) (O : CellTallies nD τ sig ℕ) : Prop := ∀ g u, 0 < O g u → g.1.2 = .tc ∧ n < u ∧ u < 8

theorem above_zero (n : ℕ) : Above n 0 := fun g u h => absurd h (Nat.lt_irrefl 0)
theorem above_mono {n n' : ℕ} {O : CellTallies nD τ sig ℕ} (h : n' ≤ n) (hO : Above n O) : Above n' O :=
  fun g u hg => ⟨(hO g u hg).1, lt_of_le_of_lt h (hO g u hg).2.1, (hO g u hg).2.2⟩
theorem above_add {n : ℕ} {O : CellTallies nD τ sig ℕ} (hO : Above n O) {c : Dev nD} {sm : SemLoc sig} {ι k : ℕ} (h1 : n < ι) (h2 : ι < 8) :
    Above n (O + tallyAt ((c : Thread nD τ), sm) ι k) := fun g u hg => by
  rw [Pi.add_apply, Finsupp.add_apply, tallyAt_apply] at hg
  by_cases h : g = ((c : Thread nD τ), sm) ∧ u = ι
  · rw [h.1, h.2]; exact ⟨rfl, h1, h2⟩
  · rw [if_neg h, add_zero] at hg; exact hO g u hg

theorem above_owed : ∀ (n : ℕ), n ≤ 3 → ∀ c, Above (7 - 2 * n) (owed n c)
  | 0, _, c => above_zero _
  | n + 1, h, c => by
    have ih := above_mono (n' := 7 - 2 * (n + 1)) (by omega) (above_owed n (by omega) c)
    unfold owed
    iterate 6 refine above_add ?_ (by omega) (by omega)
    exact ih

theorem above_O₀ (c : Dev nD) : Above 0 (O₀ c) := by
  unfold O₀
  iterate 3 refine above_add ?_ (by omega) (by omega)
  exact above_mono (by omega) (above_owed 3 le_rfl c)

/-- A device may wait at level `ι` while everything it owes is above. -/
theorem mayWait (c : Dev nD) (sm : SemLoc sig) {ι : ℕ} (hι : ι < 8) {O : CellTallies nD τ sig ℕ} (hO : Above ι O) :
    (levAts L lv : sProp 𝕄) ⊢ MayWait (c : Thread nD τ) sm ι O :=
  MayOwe.of_cut (L := L) (lev := lv) ι (fun p hp => by rw [Finset.mem_singleton.mp hp, L_tc]; exact Finset.mem_range.mpr hι)
    (fun g u hg => by unfold L; rw [if_pos (hO g u hg).1]; exact Finset.mem_range.mpr (hO g u hg).2.2)
    (fun p hp => by rw [Finset.mem_singleton.mp hp]; exact le_rfl)
    (fun g u hg => (hO g u hg).2.1)

end Cert.KernelIdeal.Mlp

end
-- ==== Proof.Steps.lean ====
/-
# One rule per operation of the body

Each names what the operation needs and what it leaves, in the protocol's own terms: slots at their contents, copies in
flight, and rounds of the schedule.
-/
module

public import proofs.«01_k».proof.Proof.Protocol

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

/-- The body's weakest precondition on device `c`. -/
abbrev WP (c : Dev nD) (p : Pg F) (Q : PUnit → sProp 𝕄) : sProp 𝕄 :=
  wp frame (wpE (defs₀ (F := F)) 𝒱₀ (c : Thread nD τ) none) Set.univ p Q

/-- What device `c` owes, whatever waits it has recorded. -/
def owing (c : Dev nD) (O : CellTallies nD τ sig ℕ) : sProp 𝕄 := iprop(∃ W, owes (c : Thread nD τ) O W)

/-- A cell's invariant at some name. -/
def Inv (g : GSem nD τ sig) : sProp 𝕄 := iprop(∃ κ, cellInv ER (Rd (F := F) m ρ) κ g)
instance Inv_persistent (g : GSem nD τ sig) : BI.Persistent (Inv (F := F) m ρ g) := by unfold Inv; infer_instance

/-! ## Loads and stores -/

theorem step_load (c : Dev nD) {s : Shape} {e : EltTy} (b : Memref sig .tc .vmem s e) (r : Rect s) (hr : ∀ a, r.stride a = 1)
    {hl : b.view.LoadsAt r.toLoadRect} {q : PosShare TreeShare} (X : r.shape.Idx → Elt F e) (K : (r.shape.Idx → Elt F e) → Pg F) (Q : PUnit → sProp 𝕄) :
    owns (c : Thread nD τ) (b.slice r hr) q X
      ⊢ iprop((owns (c : Thread nD τ) (b.slice r hr) q X -∗ WP c (K X) Q) -∗ WP c (.op (.load b r.toLoadRect hl) K) Q) := by
  unfold owns
  iintro ⟨%f, %hf, H⟩ Hk
  iapply (wp_load_rect 𝒱₀ (c : Thread nD τ) none Set.univ (m := b) (r := r) (f := f) (S := (b.slice r hr).view.set) (q := q) subset_rfl) $$ H
  iintro H
  rw [show (b.access r).read (Elt F) f = X from hf]
  iapply Hk
  iexists f
  isplitr; · ipureintro; exact hf
  iexact H

/-- A load whose value is dropped and the store that follows it. -/
theorem step_loadStore (c : Dev nD) {s : Shape} {e : EltTy} (b : Memref sig .tc .vmem s e) (r : Rect s) (hr : ∀ a, r.stride a = 1)
    {hl : b.view.LoadsAt r.toLoadRect} (w : r.shape.Idx → Elt F e) {hx : (b.access r).Stores Finset.univ}
    {hm : (Finset.univ : Finset r.shape.Idx) = Finset.univ ∨ ∀ a, r.stride a = 1} (K : Pg F) (Q : PUnit → sProp 𝕄) :
    iprop(∃ f, ((b.slice r hr).view.loc (c : Thread nD τ) ↦[(b.slice r hr).view.set]{fullShare} f))
      ⊢ iprop((owns (c : Thread nD τ) (b.slice r hr) fullShare w -∗ WP c K Q)
          -∗ WP c (.op (.load b r.toLoadRect hl) fun _ => .op (.store b r w Finset.univ hx hm) fun _ => K) Q) := by
  iintro ⟨%f, H⟩ Hk
  iapply (wp_load_rect 𝒱₀ (c : Thread nD τ) none Set.univ (m := b) (r := r) (f := f) (S := (b.slice r hr).view.set) (q := fullShare) subset_rfl) $$ H
  iintro H
  iapply (wp_store 𝒱₀ (c : Thread nD τ) none Set.univ (m := b) (r := r) (f := f) (S := (b.slice r hr).view.set) (by rw [View.setOn_univ])) $$ H
  iintro H
  iapply Hk
  unfold owns
  iexists ((b.access r).write (Elt F) f w Finset.univ)
  isplitr; · ipureintro; exact View.read_write_univ _ _
  iexact H

/-- A whole buffer through a window that is all of it. -/
theorem owns_unit_zero (c : Dev nD) (b : Ref sig .tc) {off : Fin b.ty.shape.rank → Nat} (h : off = fun _ => 0)
    (inb : ∀ a, off a + b.ty.shape.size a ≤ b.ty.shape.size a) (hr : ∀ a, (Rect.unit off b.ty.shape.size inb).stride a = 1)
    (q : PosShare TreeShare) (X : b.ty.Contents (Elt F)) :
    (owns (c : Thread nD τ) ((Memref.whole b : Memref sig .tc _ _ _).slice (Rect.unit off b.ty.shape.size inb) hr) q X : sProp 𝕄)
      = (((c : Thread nD τ).loc b) ↦{q} X) := by
  subst h
  have hset : ((Memref.whole b : Memref sig .tc _ _ _).slice (Rect.unit (fun _ => 0) b.ty.shape.size inb) hr).view.set = Finset.univ :=
    Memref.set_access_whole b
  have hread (f : b.ty.Contents (Elt F)) :
      ((Memref.whole b : Memref sig .tc _ _ _).slice (Rect.unit (fun _ => 0) b.ty.shape.size inb) hr).view.read (Elt F) f = f :=
    Memref.read_access_whole (Elt F) b f
  have h₁ : (owns (c : Thread nD τ) ((Memref.whole b : Memref sig .tc _ _ _).slice (Rect.unit (fun _ => 0) b.ty.shape.size inb) hr) q X : sProp 𝕄)
      ⊢ (((c : Thread nD τ).loc b) ↦{q} X) := by
    unfold owns
    iintro ⟨%f, %hf, H⟩
    rw [hread] at hf; subst hf
    rw [hset]; iexact H
  have h₂ : (((c : Thread nD τ).loc b) ↦{q} X : sProp 𝕄)
      ⊢ owns (c : Thread nD τ) ((Memref.whole b : Memref sig .tc _ _ _).slice (Rect.unit (fun _ => 0) b.ty.shape.size inb) hr) q X := by
    unfold owns
    iintro H
    iexists X
    isplitr; · ipureintro; exact hread X
    rw [hset]; iexact H
  exact BI.equiv_iff.mp ⟨h₁, h₂⟩

theorem hz2 : (![0, 0] : Fin 2 → Nat) = fun _ => 0 := funext fun a => by fin_cases a <;> rfl

/-! ## The weight blocks -/

/-- A tile for the first weight matrix at rest: any contents, its semaphore at zero. -/
def idleWin (c : Dev nD) (t : Fin 2) : sProp 𝕄 :=
  iprop((∃ f, ((winS t).view.loc (c : Thread nD τ) ↦[(winS t).view.set]{fullShare} f)) ∗ semVal ((c : Thread nD τ), .dma (winSem t)) 0)
/-- The first weight matrix of layer `ℓ`, at share `q`. -/
def arrWin (ℓ : ℕ) (c : Dev nD) (q : PosShare TreeShare) : sProp 𝕄 :=
  ((aWin ℓ).view.loc (c : Thread nD τ)) ↦{q} m ((aWin ℓ).view.loc (c : Thread nD τ))
/-- Block `j` of it on its way into tile `t`. -/
def flyWin (ℓ : ℕ) (c : Dev nD) (j : Fin 4) (t : Fin 2) (q : PosShare TreeShare) : sProp 𝕄 :=
  iprop((∃ fd, Transfers.Flight EC (c : Thread nD τ) (.dma (winSem t)) 0 (winT t).view.dmaCredit
      iprop(((winT t).view.loc (c : Thread nD τ) ↦[(winT t).view.set]{fullShare}
          ((winT t).view.write (Elt F) fd ((winWin (aWin ℓ) c j).view.read (Elt F) (m ((winWin (aWin ℓ) c j).view.loc (c : Thread nD τ)))) Finset.univ))
        ∗ ((winWin (aWin ℓ) c j).view.loc (c : Thread nD τ) ↦[(winWin (aWin ℓ) c j).view.set]{q} m ((winWin (aWin ℓ) c j).view.loc (c : Thread nD τ)))))
    ∗ ((aWin ℓ).view.loc (c : Thread nD τ) ↦[Finset.univ \ (winWin (aWin ℓ) c j).view.set]{q} m ((aWin ℓ).view.loc (c : Thread nD τ))))

theorem step_enqWin (ℓ : ℕ) (c : Dev nD) (j : Fin 4) (t : Fin 2) (q : PosShare TreeShare) (K : Pg F) (Q : PUnit → sProp 𝕄) :
    iprop(idleWin c t ∗ arrWin m ℓ c q)
      ⊢ iprop((flyWin m ℓ c j t q -∗ WP c K Q) -∗ WP c (enqWin (aWin ℓ) c j t K) Q) := by
  unfold idleWin arrWin flyWin enqWin
  iintro ⟨⟨⟨%fd, Hd⟩, Hv⟩, Ha⟩ Hk
  ihave Ha' := (pointsTo_split_subset (Finset.subset_univ (winWin (aWin ℓ) c j).view.set)).1 $$ Ha
  icases Ha' with ⟨Hs, Hr⟩
  iapply (Transfers.wp_dmaLocal EC 𝒱₀ (c : Thread nD τ) none (src := winWin (aWin ℓ) c j) (dst := winT t) (q := q)
    (fs := m ((winWin (aWin ℓ) c j).view.loc (c : Thread nD τ))) (Sd := (winT t).view.set) (fd := fd) 0 (winT t).view.dmaCredit rfl
    (View.dmaCredit_pos _ (by decide)) subset_rfl) $$ [Hs Hd Hv]
  · isplitl [Hs]; · iexact Hs
    isplitl [Hd]
    · rw [show (winT t).view.set = (winS t).view.set from View.set_reshape _ _]; iexact Hd
    iexact Hv
  iintro Hf
  iapply Hk
  isplitl [Hf]; · iexists fd; iexact Hf
  iexact Hr

theorem step_waitWin (ℓ : ℕ) (c : Dev nD) (j : Fin 4) (t : Fin 2) (q : PosShare TreeShare) {O : CellTallies nD τ sig ℕ} (hO : Above 0 O)
    (K : Pg F) (Q : PUnit → sProp 𝕄) :
    iprop(flyWin m ℓ c j t q ∗ owing c O ∗ levAts L lv)
      ⊢ iprop(((owns (c : Thread nD τ) (winS t) fullShare (wt m ℓ c j) ∗ semVal ((c : Thread nD τ), .dma (winSem t)) 0 ∗ arrWin m ℓ c q ∗ owing c O)
          -∗ WP c K Q) -∗ WP c (waitWin (aWin ℓ) c j t K) Q) := by
  unfold arrWin flyWin waitWin owing
  iintro ⟨⟨⟨%fd, Hf⟩, Hr⟩, ⟨%W, HO⟩, Hlev⟩ Hk
  iapply (Transfers.wp_waitLocalO EC 𝒱₀ (c : Thread nD τ) none 0 (dstw := winT t) rfl (O := O) (W := W)) $$ [Hf HO Hlev]
  · isplitl [Hf]; · iexact Hf
    isplitl [HO]; · iexact HO
    iapply (mayWait c (.dma (winSem t)) (by decide) hO); iexact Hlev
  iintro ⟨⟨Hd, Hs⟩, Hv, HO⟩
  iapply Hk
  isplitl [Hd]
  · unfold owns
    iexists _
    isplitr
    rotate_left
    · rw [show (winT t).view.set = (winS t).view.set from View.set_reshape _ _]; iexact Hd
    · ipureintro
      exact (congrArg _ (View.write_reshape_univ _ _ _ _)).trans (View.read_write_univ _ _)
  isplitl [Hv]; · iexact Hv
  isplitl [Hs Hr]
  · iapply (pointsTo_split_subset (Finset.subset_univ (winWin (aWin ℓ) c j).view.set)).2
    isplitl [Hs]; · iexact Hs
    iexact Hr
  iexists _; iexact HO

/-- A tile for the second weight matrix at rest: any contents, its semaphore at zero. -/
def idleWout (c : Dev nD) (t : Fin 4) : sProp 𝕄 :=
  iprop((∃ f, ((woutS t).view.loc (c : Thread nD τ) ↦[(woutS t).view.set]{fullShare} f)) ∗ semVal ((c : Thread nD τ), .dma (woutSem t)) 0)
/-- The second weight matrix of layer `ℓ`, at share `q`. -/
def arrWout (ℓ : ℕ) (c : Dev nD) (q : PosShare TreeShare) : sProp 𝕄 :=
  ((aWout ℓ).view.loc (c : Thread nD τ)) ↦{q} m ((aWout ℓ).view.loc (c : Thread nD τ))
/-- Block `j` of it on its way into tile `j`. -/
def flyWout (ℓ : ℕ) (c : Dev nD) (j : Fin 4) (q : PosShare TreeShare) : sProp 𝕄 :=
  iprop((∃ fd, Transfers.Flight EC (c : Thread nD τ) (.dma (woutSem j)) 0 (woutT j).view.dmaCredit
      iprop(((woutT j).view.loc (c : Thread nD τ) ↦[(woutT j).view.set]{fullShare}
          ((woutT j).view.write (Elt F) fd ((woutWin (aWout ℓ) c j).view.read (Elt F) (m ((woutWin (aWout ℓ) c j).view.loc (c : Thread nD τ)))) Finset.univ))
        ∗ ((woutWin (aWout ℓ) c j).view.loc (c : Thread nD τ) ↦[(woutWin (aWout ℓ) c j).view.set]{q} m ((woutWin (aWout ℓ) c j).view.loc (c : Thread nD τ)))))
    ∗ ((aWout ℓ).view.loc (c : Thread nD τ) ↦[Finset.univ \ (woutWin (aWout ℓ) c j).view.set]{q} m ((aWout ℓ).view.loc (c : Thread nD τ))))

theorem step_enqWout (ℓ : ℕ) (c : Dev nD) (j : Fin 4) (q : PosShare TreeShare) (K : Pg F) (Q : PUnit → sProp 𝕄) :
    iprop(idleWout c j ∗ arrWout m ℓ c q)
      ⊢ iprop((flyWout m ℓ c j q -∗ WP c K Q) -∗ WP c (enqWout (aWout ℓ) c j K) Q) := by
  unfold idleWout arrWout flyWout enqWout
  iintro ⟨⟨⟨%fd, Hd⟩, Hv⟩, Ha⟩ Hk
  ihave Ha' := (pointsTo_split_subset (Finset.subset_univ (woutWin (aWout ℓ) c j).view.set)).1 $$ Ha
  icases Ha' with ⟨Hs, Hr⟩
  iapply (Transfers.wp_dmaLocal EC 𝒱₀ (c : Thread nD τ) none (src := woutWin (aWout ℓ) c j) (dst := woutT j) (q := q)
    (fs := m ((woutWin (aWout ℓ) c j).view.loc (c : Thread nD τ))) (Sd := (woutT j).view.set) (fd := fd) 0 (woutT j).view.dmaCredit rfl
    (View.dmaCredit_pos _ (by decide)) subset_rfl) $$ [Hs Hd Hv]
  · isplitl [Hs]; · iexact Hs
    isplitl [Hd]
    · rw [show (woutT j).view.set = (woutS j).view.set from View.set_reshape _ _]; iexact Hd
    iexact Hv
  iintro Hf
  iapply Hk
  isplitl [Hf]; · iexists fd; iexact Hf
  iexact Hr

theorem step_waitWout (ℓ : ℕ) (c : Dev nD) (j : Fin 4) (q : PosShare TreeShare) {O : CellTallies nD τ sig ℕ} (hO : Above 0 O)
    (K : Pg F) (Q : PUnit → sProp 𝕄) :
    iprop(flyWout m ℓ c j q ∗ owing c O ∗ levAts L lv)
      ⊢ iprop(((owns (c : Thread nD τ) (woutS j) fullShare (wo m ℓ c j) ∗ semVal ((c : Thread nD τ), .dma (woutSem j)) 0 ∗ arrWout m ℓ c q ∗ owing c O)
          -∗ WP c K Q) -∗ WP c (waitWout (aWout ℓ) c j K) Q) := by
  unfold arrWout flyWout waitWout owing
  iintro ⟨⟨⟨%fd, Hf⟩, Hr⟩, ⟨%W, HO⟩, Hlev⟩ Hk
  iapply (Transfers.wp_waitLocalO EC 𝒱₀ (c : Thread nD τ) none 0 (dstw := woutT j) rfl (O := O) (W := W)) $$ [Hf HO Hlev]
  · isplitl [Hf]; · iexact Hf
    isplitl [HO]; · iexact HO
    iapply (mayWait c (.dma (woutSem j)) (by decide) hO); iexact Hlev
  iintro ⟨⟨Hd, Hs⟩, Hv, HO⟩
  iapply Hk
  isplitl [Hd]
  · unfold owns
    iexists _
    isplitr
    rotate_left
    · rw [show (woutT j).view.set = (woutS j).view.set from View.set_reshape _ _]; iexact Hd
    · ipureintro
      exact (congrArg _ (View.write_reshape_univ _ _ _ _)).trans (View.read_write_univ _ _)
  isplitl [Hv]; · iexact Hv
  isplitl [Hs Hr]
  · iapply (pointsTo_split_subset (Finset.subset_univ (woutWin (aWout ℓ) c j).view.set)).2
    isplitl [Hs]; · iexact Hs
    iexact Hr
  iexists _; iexact HO

/-! ## The barrier -/

theorem step_signal (c : Dev nD) (k : Fin 3) (d : Dev nD) (hd : d = peer c k) (O : CellTallies nD τ sig ℕ) (n : ℤ) (hn : n = 1) (K : Pg F) (Q : PUnit → sProp 𝕄) :
    iprop(Inv m ρ (barCell (peer c k)) ∗ owing c (O + owB c k) ∗ dutyTok ER (barCell (peer c k)) 0 k.rev ∗ slotR 0 (peer c k) k.rev
        ∗ reached ER (barCell (peer c k)) 0)
      ⊢ iprop((owing c O -∗ WP c K Q) -∗ WP c (.op (.semSignal (d, .tc) barSem 1) fun _ => K) Q) := by
  subst hd
  unfold Inv owing
  iintro ⟨⟨%κ, #HI⟩, ⟨%W, HO⟩, Ht, Hp, #Hr⟩ Hk
  iapply (Rounds.wp_signal 𝒱₀ ER (Rd m ρ) (c : Thread nD τ) none (dst := (peer c k : Thread nD τ)) (κ := κ) (d := k.rev)
    (by rw [duties_bar]; exact Finset.mem_univ _) (amount_bar m ρ (peer c k) 0 k.rev) 1 O rfl) $$ [HO Ht Hp]
  · isplitr; · iexact HI
    isplitl [HO]; · iexact HO
    isplitl [Ht]; · iexact Ht
    isplitl [Hp]; · rw [payload_bar]; iexact Hp
    iexact Hr
  iintro HO
  iapply Hk
  iexists W; iexact HO

theorem step_barrier (c : Dev nD) {O : CellTallies nD τ sig ℕ} (hO : Above 1 O) (K : Pg F) (Q : PUnit → sProp 𝕄) :
    iprop(Inv m ρ (barCell c) ∗ cred (tallyAt (barCell c) 1 3) ∗ owing c O ∗ levAts L lv ∗ atPos ER (barCell c) 0 ∅ 0)
      ⊢ iprop(((owing c O ∗ atPos ER (barCell c) 1 ∅ 0 ∗ slotR 0 c 0 ∗ slotR 0 c 1 ∗ slotR 0 c 2) -∗ WP c K Q)
          -∗ WP c (.op (.semWait barSem 3) fun _ => K) Q) := by
  unfold Inv owing
  iintro ⟨⟨%κ, #HI⟩, Hc, ⟨%W, HO⟩, Hlev, Hat⟩ Hk
  iapply (Rounds.wp_wait_rest_token 𝒱₀ ER (Rd m ρ) (c : Thread nD τ) none (κ := κ)
      (wpE_semWait_eq 𝒱₀ (c : Thread nD τ) none Set.univ) (Set.mem_univ _) 1 (O := O) (W := W) (R := 0) (m := 0) (T := ∅)
      (by rw [expect_bar])) $$ [Hc HO Hlev Hat]
  · isplitr; · iexact HI
    isplitl [Hc]; · iexact Hc
    isplitl [HO]; · iexact HO
    isplitl [Hlev]; · iapply (mayWait c (.reg barSem) (by decide) hO); iexact Hlev
    iexact Hat
  iintro ⟨HO, Hat, -, Hpay⟩
  ihave Hp := (Entails.of_eq (rest_bar m ρ c)) $$ Hpay
  iapply Hk
  isplitl [HO]; · iexists _; iexact HO
  isplitl [Hat]; · iexact Hat
  iexact Hp

/-! ## The copies between devices -/

theorem step_sendRs (ℓ : ℕ) (hℓ : ℓ < 3) (c : Dev nD) (k : Fin 3) (d : Dev nD) (hd : d = peer c k) (O : CellTallies nD τ sig ℕ) (K : Pg F) (Q : PUnit → sProp 𝕄) :
    iprop(Inv m ρ (rsSC c k) ∗ Inv m ρ (rsRC (peer c k) k)
        ∗ owns (c : Thread nD τ) (chS sB k) fullShare (partX m ℓ (xin m ρ ℓ) c k)
        ∗ slotR ℓ c k ∗ anyAt c gB k.rev ∗ reached ER (agRC c k.rev) ℓ
        ∗ owing c (O + owR c ℓ k)
        ∗ dutyTok ER (rsSC c k) ℓ 0 ∗ reached ER (rsSC c k) ℓ ∗ dutyTok ER (rsRC (peer c k) k) ℓ 0)
      ⊢ iprop(((cred (tallyAt (rsSC c k) 0 N) ∗ owing c O) -∗ WP c K Q) -∗ WP c (sendRs k d K) Q) := by
  subst hd
  unfold Inv owing slotR sendRs
  rw [if_pos hℓ]
  unfold owns anyAt
  iintro ⟨⟨%κ₁, #HI1⟩, ⟨%κ₂, #HI2⟩, ⟨%fs, %hfs, Hs⟩, ⟨⟨%fd, Hd⟩, #Hrd⟩, ⟨%fg, Hg⟩, #Hrg, ⟨%W, HO⟩, Ht1, #Hr1, Ht2⟩ Hk
  iapply (Rounds.wp_send_pointsTo_with 𝒱₀ ER (Rd m ρ) (c : Thread nD τ) none (c' := (peer c k : Thread nD τ)) (κ₁ := κ₁) (κ₂ := κ₂)
    (src := chT sB k) (dst := chT rB k) (q := fullShare)
    (r₁ := ℓ) (r₂ := ℓ) (d₁ := 0) (d₂ := 0) (fs := fs) (fd := fd)
    (F := iprop(anyAt c gB k.rev ∗ reached ER (agRC c k.rev) ℓ))
    (by rw [duties_rsS m ρ c k ℓ hℓ]; exact Finset.mem_singleton_self _) (by rw [duties_rsR m ρ _ k ℓ hℓ]; exact Finset.mem_singleton_self _)
    (2 + 2 * ℓ) 0 N rfl (amount_rsS m ρ c k ℓ 0) (amount_rsR m ρ (peer c k) k ℓ 0) O rfl (W := W)
    (by
      rw [payload_rsS]; unfold anyAt
      rw [show (chT sB k).view.set = (chS sB k).view.set from View.set_reshape _ _]
      iintro H; iexists fs; iexact H)
    (by
      rw [payload_rsR]; unfold rsRPay slotG owns
      rw [peer_rev, show (chT rB k).view.set = (chS rB k).view.set from View.set_reshape _ _]
      iintro ⟨H, Hg⟩
      isplitl [H]
      · iexists _
        isplitr
        rotate_left
        · iexact H
        · ipureintro
          refine ((congrArg _ (View.write_reshape_univ _ _ _ _)).trans (View.read_write_univ _ _)).trans ?_
          unfold gotX
          rw [peer_rev, ← hfs]
          funext x
          exact congrArg ((chS sB k).view.read (Elt F) fs) (Equiv.apply_symm_apply _ x)
      iexact Hg)) $$ [Hs Hd Hg HO Ht1 Ht2]
  · isplitr; · iexact HI1
    isplitr; · iexact HI2
    isplitl [Hs]
    · rw [show (chT sB k).view.set = (chS sB k).view.set from View.set_reshape _ _]; iexact Hs
    isplitl [Hd Hg]
    · isplitl [Hd]
      · rw [show (chT rB k).view.set = (chS rB k).view.set from View.set_reshape _ _]; iexact Hd
      isplitl [Hg]
      · unfold anyAt; iexists fg; iexact Hg
      iexact Hrg
    isplitl [HO]; · iexact HO
    isplitl [Ht1]; · iexact Ht1
    isplitr; · iexact Hr1
    isplitl [Ht2]; · iexact Ht2
    iexact Hrd
  iintro ⟨Hc, HO⟩
  iapply Hk
  isplitl [Hc]; · iexact Hc
  iexists W; iexact HO

theorem step_sendAg (ℓ : ℕ) (hℓ : ℓ < 3) (c : Dev nD) (k : Fin 3) (d : Dev nD) (hd : d = peer c k) (O : CellTallies nD τ sig ℕ) (K : Pg F) (Q : PUnit → sProp 𝕄) :
    iprop(Inv m ρ (agSC c k) ∗ Inv m ρ (agRC (peer c k) k)
        ∗ owns (c : Thread nD τ) hB (sh3 k) (sentX m ℓ (xin m ρ ℓ) c)
        ∗ slotG ℓ c k ∗ backR (ℓ + 1) (peer c k) k.rev
        ∗ owing c (O + owG c ℓ k)
        ∗ dutyTok ER (agSC c k) ℓ 0 ∗ reached ER (agSC c k) ℓ ∗ dutyTok ER (agRC (peer c k) k) ℓ 0)
      ⊢ iprop(((cred (tallyAt (agSC c k) 0 N) ∗ owing c O) -∗ WP c K Q) -∗ WP c (sendAg k d K) Q) := by
  subst hd
  unfold Inv owing slotG sendAg
  unfold owns anyAt
  iintro ⟨⟨%κ₁, #HI1⟩, ⟨%κ₂, #HI2⟩, ⟨%fs, %hfs, Hs⟩, ⟨⟨%fd, Hd⟩, #Hrd⟩, Hg, ⟨%W, HO⟩, Ht1, #Hr1, Ht2⟩ Hk
  iapply (Rounds.wp_send_pointsTo_with 𝒱₀ ER (Rd m ρ) (c : Thread nD τ) none (c' := (peer c k : Thread nD τ)) (κ₁ := κ₁) (κ₂ := κ₂)
    (src := hB) (dst := chT gB k) (q := sh3 k)
    (r₁ := ℓ) (r₂ := ℓ) (d₁ := 0) (d₂ := 0) (fs := fs) (fd := fd)
    (F := backR (ℓ + 1) (peer c k) k.rev)
    (by rw [duties_agS m ρ c k ℓ hℓ]; exact Finset.mem_singleton_self _) (by rw [duties_agR m ρ _ k ℓ hℓ]; exact Finset.mem_singleton_self _)
    (3 + 2 * ℓ) 0 N rfl (amount_agS m ρ c k ℓ 0) (amount_agR m ρ (peer c k) k ℓ 0) O rfl (W := W)
    (by
      rw [payload_agS]; unfold agSPay owns
      iintro H; iexists fs
      isplitr; · ipureintro; exact hfs
      iexact H)
    (by
      rw [payload_agR]; unfold agRPay owns
      rw [show (chT gB k).view.set = (chS gB k).view.set from View.set_reshape _ _]
      iintro ⟨H, Hg⟩
      isplitl [H]
      · iexists _
        isplitr
        rotate_left
        · iexact H
        · ipureintro
          refine ((congrArg _ (View.write_reshape_univ _ _ _ _)).trans (View.read_write_univ _ _)).trans ?_
          unfold hgotX
          rw [peer_rev, ← hfs]
          rfl
      iexact Hg)) $$ [Hs Hd Hg HO Ht1 Ht2]
  · isplitr; · iexact HI1
    isplitr; · iexact HI2
    isplitl [Hs]; · iexact Hs
    isplitl [Hd Hg]
    · isplitl [Hd]
      · rw [show (chT gB k).view.set = (chS gB k).view.set from View.set_reshape _ _]; iexact Hd
      iexact Hg
    isplitl [HO]; · iexact HO
    isplitl [Ht1]; · iexact Ht1
    isplitr; · iexact Hr1
    isplitl [Ht2]; · iexact Ht2
    iexact Hrd
  iintro ⟨Hc, HO⟩
  iapply Hk
  isplitl [Hc]; · iexact Hc
  iexists W; iexact HO

/-- A wait for the one round of a copy's cell. -/
theorem step_wait (ℓ : ℕ) (c : Dev nD) (sm : DmaSem sig) (ι : ℕ) (hι : ι < 8) {O : CellTallies nD τ sig ℕ} (hO : Above ι O)
    {P : sProp 𝕄} (hP : bigSep ((Rd (F := F) m ρ).duties ((c : Thread nD τ), .dma sm) ℓ \ ∅) (fun d => (Rd (F := F) m ρ).payload ((c : Thread nD τ), .dma sm) ℓ d) = P)
    (hN : (Rd (F := F) m ρ).expect ((c : Thread nD τ), .dma sm) ℓ = N)
    {s : Shape} {s' : Shape} {e e' : EltTy} {sp sp' : Space} {κ' : Kind} {srcw : Memref sig .tc sp' s' e'} {dstw : Memref sig κ' sp s e}
    (hw : dstw.view.dmaCredit = N) {hsrc : srcw.view.WordExact} {hdst : dstw.view.WordExact} (K : Pg F) (Q : PUnit → sProp 𝕄) :
    iprop(Inv m ρ ((c : Thread nD τ), .dma sm) ∗ cred (tallyAt ((c : Thread nD τ), .dma sm) ι N) ∗ owing c O ∗ levAts L lv
        ∗ atPos ER ((c : Thread nD τ), .dma sm) ℓ ∅ 0)
      ⊢ iprop(((owing c O ∗ atPos ER ((c : Thread nD τ), .dma sm) (ℓ + 1) ∅ 0 ∗ reached ER ((c : Thread nD τ), .dma sm) (ℓ + 1) ∗ P) -∗ WP c K Q)
          -∗ WP c (.op (.waitDma2 sm srcw dstw hsrc hdst) fun _ => K) Q) := by
  subst hP
  unfold Inv owing
  iintro ⟨⟨%κ, #HI⟩, Hc, ⟨%W, HO⟩, Hlev, Hat⟩ Hk
  iapply (Rounds.wp_wait_rest_token 𝒱₀ ER (Rd m ρ) (c : Thread nD τ) none (κ := κ)
      (wpE_waitDma2_eq 𝒱₀ (c : Thread nD τ) none Set.univ) (Set.mem_univ _) ι (O := O) (W := W) (R := ℓ) (m := 0) (T := ∅)
      (by rw [Nat.zero_add, hN, hw])) $$ [Hc HO Hlev Hat]
  · isplitr; · iexact HI
    isplitl [Hc]; · rw [hw]; iexact Hc
    isplitl [HO]; · iexact HO
    isplitl [Hlev]; · iapply (mayWait c (.dma sm) hι hO); iexact Hlev
    iexact Hat
  iintro ⟨HO, Hat, Hr, Hpay⟩
  iapply Hk
  isplitl [HO]; · iexists _; iexact HO
  isplitl [Hat]; · iexact Hat
  isplitl [Hr]; · iexact Hr
  iexact Hpay

end Cert.KernelIdeal.Mlp

end
-- ==== Proof.Layer.lean ====
/-
# One layer

The layer at a symbolic device and a symbolic layer number, from what the device holds at its start to what it holds at
its end, in the three parts the program has: the reduce-scatter, the hidden block, the all-gather.
-/
module

public import proofs.«01_k».proof.Proof.Steps

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The cells, indexed, and their invariants -/

/-- The semaphores of the protocol: the barrier, and four for each of the three copies of a layer. -/
abbrev CIx : Type := Option (Fin 4 × Fin 3)
def csem : CIx → SemLoc sig
  | none => .reg barSem
  | some (0, k) => .dma (rsS k)
  | some (1, k) => .dma (rsR k)
  | some (2, k) => .dma (agS k)
  | some (3, k) => .dma (agR k)
abbrev kcell (ck : Dev nD × CIx) : GSem nD τ sig := ((ck.1 : Thread nD τ), csem ck.2)

/-- Every cell's invariant, at some names. -/
def recs : sProp 𝕄 := bigSep Finset.univ fun ck : Dev nD × CIx => Inv m ρ (kcell ck)
instance recs_persistent : BI.Persistent (recs (F := F) m ρ) := by unfold recs; infer_instance

theorem recs_at (ck : Dev nD × CIx) : recs (F := F) m ρ ⊢ Inv m ρ (kcell ck) := by
  unfold recs; exact bigSep_elim (Finset.mem_univ ck)
theorem recs_bar (c : Dev nD) : recs (F := F) m ρ ⊢ Inv m ρ (barCell c) := recs_at m ρ (c, none)
theorem recs_rsS (c : Dev nD) (k : Fin 3) : recs (F := F) m ρ ⊢ Inv m ρ (rsSC c k) := recs_at m ρ (c, some (0, k))
theorem recs_rsR (c : Dev nD) (k : Fin 3) : recs (F := F) m ρ ⊢ Inv m ρ (rsRC c k) := recs_at m ρ (c, some (1, k))
theorem recs_agS (c : Dev nD) (k : Fin 3) : recs (F := F) m ρ ⊢ Inv m ρ (agSC c k) := recs_at m ρ (c, some (2, k))
theorem recs_agR (c : Dev nD) (k : Fin 3) : recs (F := F) m ρ ⊢ Inv m ρ (agRC c k) := recs_at m ρ (c, some (3, k))

/-! ## What a layer is of the network -/

/-- Layer `L` of the program is layer `ℓ` of the network on device `c`. -/
structure Fits (L : Layer) (ℓ : ℕ) (c : Dev nD) : Prop where
  lt : ℓ < 3
  win : L.win = aWin ℓ
  wout : L.wout = aWout ℓ
  next : L.next = if ℓ < 2 then some (aWin (ℓ + 1)) else none
  rs : ∀ k, L.rs k = peer c k
  ag : ∀ k, L.ag k = peer c k

/-- The shares of the two weight arrays, one per tile. -/
def sh2 : Fin 2 → PosShare TreeShare
  | 0 => fullShare.left
  | 1 => fullShare.right
def sh4 : Fin 4 → PosShare TreeShare
  | 0 => fullShare.left.left
  | 1 => fullShare.left.right
  | 2 => fullShare.right.left
  | 3 => fullShare.right.right

/-- The next layer's first weight array, if there is a next layer. -/
def nextPre (ℓ : ℕ) (c : Dev nD) (t : Fin 2) : sProp 𝕄 := if ℓ < 2 then arrWin m (ℓ + 1) c (sh2 t) else iprop(emp)
/-- Its block in flight, or else the tile at rest. -/
def nextPost (ℓ : ℕ) (c : Dev nD) (j : Fin 4) (t : Fin 2) : sProp 𝕄 :=
  if ℓ < 2 then flyWin m (ℓ + 1) c j t (sh2 t) else idleWin c t

theorem step_prefetch {L' : Layer} {ℓ : ℕ} {c : Dev nD} (h : Fits L' ℓ c) (j : Fin 4) (t : Fin 2) (K : Pg F) (Q : PUnit → sProp 𝕄) :
    iprop(idleWin c t ∗ nextPre m ℓ c t) ⊢ iprop((nextPost m ℓ c j t -∗ WP c K Q) -∗ WP c (prefetch L' c j t K) Q) := by
  unfold prefetch nextPre nextPost
  rw [h.next]
  by_cases hℓ : ℓ < 2
  · rw [if_pos hℓ, if_pos hℓ, if_pos hℓ]
    exact step_enqWin m (ℓ + 1) c j t (sh2 t) K Q
  · rw [if_neg hℓ, if_neg hℓ, if_neg hℓ]
    iintro ⟨H, -⟩ Hk
    iapply Hk; iexact H

theorem owns_any (c : Dev nD) {sp : Space} {sh : Shape} {e : EltTy} (b : Memref sig .tc sp sh e) (X : sh.Idx → Elt F e) :
    (owns (c : Thread nD τ) b fullShare X : sProp 𝕄) ⊢ iprop(∃ f, (b.view.loc (c : Thread nD τ) ↦[b.view.set]{fullShare} f)) := by
  unfold owns
  iintro ⟨%f, -, H⟩; iexists f; iexact H

theorem idleWin_intro (c : Dev nD) (t : Fin 2) (X : S1x2048x1024.Idx → Elt F .f32) :
    iprop(owns (c : Thread nD τ) (winS t) fullShare X ∗ semVal ((c : Thread nD τ), .dma (winSem t)) 0) ⊢ (idleWin c t : sProp 𝕄) := by
  unfold idleWin
  iintro ⟨H, Hv⟩
  isplitl [H]; · iapply (owns_any c (winS t) X); iexact H
  iexact Hv
theorem idleWout_intro (c : Dev nD) (t : Fin 4) (X : S1x1024x2048.Idx → Elt F .f32) :
    iprop(owns (c : Thread nD τ) (woutS t) fullShare X ∗ semVal ((c : Thread nD τ), .dma (woutSem t)) 0) ⊢ (idleWout c t : sProp 𝕄) := by
  unfold idleWout
  iintro ⟨H, Hv⟩
  isplitl [H]; · iapply (owns_any c (woutS t) X); iexact H
  iexact Hv

/-! ## The four waits of a layer's remote copies -/

theorem step_waitRsR {ℓ : ℕ} (hℓ : ℓ < 3) (c : Dev nD) (k : Fin 3) {O : CellTallies nD τ sig ℕ} (hO : Above (2 + 2 * ℓ) O) (K : Pg F) (Q : PUnit → sProp 𝕄) :
    iprop(recs m ρ ∗ levAts L lv ∗ cred (tallyAt (rsRC c k) (2 + 2 * ℓ) N) ∗ owing c O ∗ atPos ER (rsRC c k) ℓ ∅ 0)
      ⊢ iprop(((owing c O ∗ atPos ER (rsRC c k) (ℓ + 1) ∅ 0 ∗ reached ER (rsRC c k) (ℓ + 1) ∗ rsRPay m ρ c k ℓ) -∗ WP c K Q) -∗ WP c (waitRsR k K) Q) := by
  unfold waitRsR
  iintro ⟨#HR, #Hlev, Hc, HO, Ha⟩ Hk
  iapply (step_wait m ρ ℓ c (rsR k) (2 + 2 * ℓ) (by omega) hO (rest_rsR m ρ c k ℓ hℓ) (expect_rsR m ρ c k ℓ hℓ) (dstw := chT rB k) rfl) $$ [Hc HO Ha]
  · isplitr; · iapply (recs_rsR m ρ c k); iexact HR
    isplitl [Hc]; · iexact Hc
    isplitl [HO]; · iexact HO
    isplitr; · iexact Hlev
    iexact Ha
  iexact Hk

theorem step_waitRsS {ℓ : ℕ} (hℓ : ℓ < 3) (c : Dev nD) (k : Fin 3) {O : CellTallies nD τ sig ℕ} (hO : Above 0 O) (K : Pg F) (Q : PUnit → sProp 𝕄) :
    iprop(recs m ρ ∗ levAts L lv ∗ cred (tallyAt (rsSC c k) 0 N) ∗ owing c O ∗ atPos ER (rsSC c k) ℓ ∅ 0)
      ⊢ iprop(((owing c O ∗ atPos ER (rsSC c k) (ℓ + 1) ∅ 0 ∗ reached ER (rsSC c k) (ℓ + 1) ∗ anyAt c sB k) -∗ WP c K Q) -∗ WP c (waitRsS k K) Q) := by
  unfold waitRsS
  iintro ⟨#HR, #Hlev, Hc, HO, Ha⟩ Hk
  iapply (step_wait m ρ ℓ c (rsS k) 0 (by omega) hO (rest_rsS m ρ c k ℓ hℓ) (expect_rsS m ρ c k ℓ hℓ) (dstw := chT sB k) rfl) $$ [Hc HO Ha]
  · isplitr; · iapply (recs_rsS m ρ c k); iexact HR
    isplitl [Hc]; · iexact Hc
    isplitl [HO]; · iexact HO
    isplitr; · iexact Hlev
    iexact Ha
  iexact Hk

theorem step_waitAgR {ℓ : ℕ} (hℓ : ℓ < 3) (c : Dev nD) (k : Fin 3) {O : CellTallies nD τ sig ℕ} (hO : Above (3 + 2 * ℓ) O) (K : Pg F) (Q : PUnit → sProp 𝕄) :
    iprop(recs m ρ ∗ levAts L lv ∗ cred (tallyAt (agRC c k) (3 + 2 * ℓ) N) ∗ owing c O ∗ atPos ER (agRC c k) ℓ ∅ 0)
      ⊢ iprop(((owing c O ∗ atPos ER (agRC c k) (ℓ + 1) ∅ 0 ∗ reached ER (agRC c k) (ℓ + 1) ∗ agRPay m ρ c k ℓ) -∗ WP c K Q) -∗ WP c (waitAgR k K) Q) := by
  unfold waitAgR
  iintro ⟨#HR, #Hlev, Hc, HO, Ha⟩ Hk
  iapply (step_wait m ρ ℓ c (agR k) (3 + 2 * ℓ) (by omega) hO (rest_agR m ρ c k ℓ hℓ) (expect_agR m ρ c k ℓ hℓ) (dstw := chT gB k) rfl) $$ [Hc HO Ha]
  · isplitr; · iapply (recs_agR m ρ c k); iexact HR
    isplitl [Hc]; · iexact Hc
    isplitl [HO]; · iexact HO
    isplitr; · iexact Hlev
    iexact Ha
  iexact Hk

theorem step_waitAgS {ℓ : ℕ} (hℓ : ℓ < 3) (c : Dev nD) (k : Fin 3) {O : CellTallies nD τ sig ℕ} (hO : Above 0 O) (K : Pg F) (Q : PUnit → sProp 𝕄) :
    iprop(recs m ρ ∗ levAts L lv ∗ cred (tallyAt (agSC c k) 0 N) ∗ owing c O ∗ atPos ER (agSC c k) ℓ ∅ 0)
      ⊢ iprop(((owing c O ∗ atPos ER (agSC c k) (ℓ + 1) ∅ 0 ∗ reached ER (agSC c k) (ℓ + 1) ∗ agSPay m ρ c k ℓ) -∗ WP c K Q) -∗ WP c (waitAgS k K) Q) := by
  unfold waitAgS
  iintro ⟨#HR, #Hlev, Hc, HO, Ha⟩ Hk
  iapply (step_wait m ρ ℓ c (agS k) 0 (by omega) hO (rest_agS m ρ c k ℓ hℓ) (expect_agS m ρ c k ℓ hℓ) (dstw := hB) rfl) $$ [Hc HO Ha]
  · isplitr; · iapply (recs_agS m ρ c k); iexact HR
    isplitl [Hc]; · iexact Hc
    isplitl [HO]; · iexact HO
    isplitr; · iexact Hlev
    iexact Ha
  iexact Hk

/-! ## The reduce-scatter -/

/-- What sending partial product `k` takes. -/
def sendRes (ℓ : ℕ) (c : Dev nD) (k : Fin 3) : sProp 𝕄 :=
  iprop(slotR ℓ c k ∗ anyAt c sB k ∗ anyAt c gB k.rev ∗ reached ER (agRC c k.rev) ℓ
    ∗ dutyTok ER (rsSC c k) ℓ 0 ∗ reached ER (rsSC c k) ℓ ∗ dutyTok ER (rsRC (peer c k) k) ℓ 0)

theorem step_sendPart {L' : Layer} {ℓ : ℕ} {c : Dev nD} (h : Fits L' ℓ c) (k : Fin 3) (t : Fin 2) (O : CellTallies nD τ sig ℕ) (K : Pg F) (Q : PUnit → sProp 𝕄) :
    iprop(recs m ρ ∗ owns (c : Thread nD τ) (winS t) fullShare (wt m ℓ c k.castSucc) ∗ sendRes ℓ c k ∗ owing c (O + owR c ℓ k))
      ⊢ iprop(((owns (c : Thread nD τ) (winS t) fullShare (wt m ℓ c k.castSucc) ∗ cred (tallyAt (rsSC c k) 0 N) ∗ owing c O) -∗ WP c K Q)
          -∗ WP c (sendPart L' c (xin m ρ ℓ c) k t K) Q) := by
  unfold sendRes sendPart loadWin loadCh storeS
  iintro ⟨#HR, Hw, ⟨Hslot, Hs, Hg, #Hrg, Ht1, #Hr1, Ht2⟩, HO⟩ Hk
  iapply (step_load c winB (rW t) (fun _ => rfl) (wt m ℓ c k.castSucc)) $$ Hw
  iintro Hw
  unfold anyAt
  iapply (step_loadStore c sB (rC k) (fun _ => rfl) (k0_pay2 (xin m ρ ℓ c) (wt m ℓ c k.castSucc))) $$ Hs
  iintro Hs
  iapply (step_sendRs m ρ ℓ h.lt c k _ (h.rs k) O) $$ [Hslot Hs Hg Ht1 Ht2 HO]
  · isplitr; · iapply (recs_rsS m ρ c k); iexact HR
    isplitr; · iapply (recs_rsR m ρ (peer c k) k); iexact HR
    isplitl [Hs]; · unfold partX; iexact Hs
    isplitl [Hslot]; · iexact Hslot
    isplitl [Hg]; · unfold anyAt; iexact Hg
    isplitr; · iexact Hrg
    isplitl [HO]; · iexact HO
    isplitl [Ht1]; · iexact Ht1
    isplitr; · iexact Hr1
    iexact Ht2
  iintro ⟨Hc, HO⟩
  iapply Hk
  isplitl [Hw]; · iexact Hw
  isplitl [Hc]; · iexact Hc
  iexact HO

/-- What a tile of the second weight matrix needs before its copy. -/
def woPre (ℓ : ℕ) (c : Dev nD) (j : Fin 4) : sProp 𝕄 := iprop(idleWout c j ∗ arrWout m ℓ c (sh4 j))

theorem layer_rs {L' : Layer} {ℓ : ℕ} {c : Dev nD} (h : Fits L' ℓ c) (O : CellTallies nD τ sig ℕ) (hO : Above 0 O)
    (K : FVec F S64x1024 .f32 → Pg F) (Q : PUnit → sProp 𝕄) :
    iprop(recs m ρ ∗ levAts L lv
        ∗ (flyWin m ℓ c 0 0 (sh2 0) ∗ flyWin m ℓ c 1 1 (sh2 1))
        ∗ (sendRes ℓ c 0 ∗ sendRes ℓ c 1 ∗ sendRes ℓ c 2)
        ∗ (woPre m ℓ c 0 ∗ woPre m ℓ c 1 ∗ woPre m ℓ c 2 ∗ woPre m ℓ c 3)
        ∗ (nextPre m ℓ c 0 ∗ nextPre m ℓ c 1)
        ∗ owing c (O + owR c ℓ 2 + owR c ℓ 1 + owR c ℓ 0))
      ⊢ iprop((((cred (tallyAt (rsSC c 0) 0 N) ∗ cred (tallyAt (rsSC c 1) 0 N) ∗ cred (tallyAt (rsSC c 2) 0 N))
            ∗ (flyWout m ℓ c 0 (sh4 0) ∗ flyWout m ℓ c 1 (sh4 1) ∗ flyWout m ℓ c 2 (sh4 2) ∗ flyWout m ℓ c 3 (sh4 3))
            ∗ (nextPost m ℓ c 0 0 ∗ nextPost m ℓ c 1 1)
            ∗ (arrWin m ℓ c (sh2 0) ∗ arrWin m ℓ c (sh2 1))
            ∗ owing c O) -∗ WP c (K (ownX m ℓ (xin m ρ ℓ) c)) Q)
          -∗ WP c (rsHalf L' c (xin m ρ ℓ c) K) Q) := by
  have hℓ := h.lt
  have h2 : Above 0 (O + owR c ℓ 2) := above_add hO (by omega) (by omega)
  have h1 : Above 0 (O + owR c ℓ 2 + owR c ℓ 1) := above_add h2 (by omega) (by omega)
  have h0 : Above 0 (O + owR c ℓ 2 + owR c ℓ 1 + owR c ℓ 0) := above_add h1 (by omega) (by omega)
  unfold rsHalf woPre
  rw [h.win, h.wout]
  iintro ⟨#HR, #Hlev, ⟨Hf0, Hf1⟩, ⟨Hs0, Hs1, Hs2⟩, ⟨⟨Ho0, Ha0⟩, ⟨Ho1, Ha1⟩, ⟨Ho2, Ha2⟩, ⟨Ho3, Ha3⟩⟩, ⟨Hn0, Hn1⟩, HO⟩ Hk
  iapply (step_waitWin m ℓ c 0 0 (sh2 0) h0) $$ [Hf0 HO]
  · isplitl [Hf0]; · iexact Hf0
    isplitl [HO]; · iexact HO
    iexact Hlev
  iintro ⟨Hw0, Hv0, Hb0, HO⟩
  iapply (step_sendPart m ρ h 0 0 (O + owR c ℓ 2 + owR c ℓ 1)) $$ [Hw0 Hs0 HO]
  · isplitr; · iexact HR
    isplitl [Hw0]; · iexact Hw0
    isplitl [Hs0]; · iexact Hs0
    iexact HO
  iintro ⟨Hw0, Hc0, HO⟩
  ihave Hi0 := (idleWin_intro c 0 _) $$ [Hw0 Hv0]
  · isplitl [Hw0]; · iexact Hw0
    iexact Hv0
  iapply (step_enqWin m ℓ c 2 0 (sh2 0)) $$ [Hi0 Hb0]
  · isplitl [Hi0]; · iexact Hi0
    iexact Hb0
  iintro Hf0
  iapply (step_waitWin m ℓ c 1 1 (sh2 1) h1) $$ [Hf1 HO]
  · isplitl [Hf1]; · iexact Hf1
    isplitl [HO]; · iexact HO
    iexact Hlev
  iintro ⟨Hw1, Hv1, Hb1, HO⟩
  iapply (step_sendPart m ρ h 1 1 (O + owR c ℓ 2)) $$ [Hw1 Hs1 HO]
  · isplitr; · iexact HR
    isplitl [Hw1]; · iexact Hw1
    isplitl [Hs1]; · iexact Hs1
    iexact HO
  iintro ⟨Hw1, Hc1, HO⟩
  ihave Hi1 := (idleWin_intro c 1 _) $$ [Hw1 Hv1]
  · isplitl [Hw1]; · iexact Hw1
    iexact Hv1
  iapply (step_enqWin m ℓ c 3 1 (sh2 1)) $$ [Hi1 Hb1]
  · isplitl [Hi1]; · iexact Hi1
    iexact Hb1
  iintro Hf1
  iapply (step_waitWin m ℓ c 2 0 (sh2 0) h2) $$ [Hf0 HO]
  · isplitl [Hf0]; · iexact Hf0
    isplitl [HO]; · iexact HO
    iexact Hlev
  iintro ⟨Hw0, Hv0, Hb0, HO⟩
  iapply (step_sendPart m ρ h 2 0 O) $$ [Hw0 Hs2 HO]
  · isplitr; · iexact HR
    isplitl [Hw0]; · iexact Hw0
    isplitl [Hs2]; · iexact Hs2
    iexact HO
  iintro ⟨Hw0, Hc2, HO⟩
  ihave Hi0 := (idleWin_intro c 0 _) $$ [Hw0 Hv0]
  · isplitl [Hw0]; · iexact Hw0
    iexact Hv0
  iapply (step_enqWout m ℓ c 0 (sh4 0)) $$ [Ho0 Ha0]
  · isplitl [Ho0]; · iexact Ho0
    iexact Ha0
  iintro Hg0
  iapply (step_enqWout m ℓ c 1 (sh4 1)) $$ [Ho1 Ha1]
  · isplitl [Ho1]; · iexact Ho1
    iexact Ha1
  iintro Hg1
  iapply (step_enqWout m ℓ c 2 (sh4 2)) $$ [Ho2 Ha2]
  · isplitl [Ho2]; · iexact Ho2
    iexact Ha2
  iintro Hg2
  iapply (step_enqWout m ℓ c 3 (sh4 3)) $$ [Ho3 Ha3]
  · isplitl [Ho3]; · iexact Ho3
    iexact Ha3
  iintro Hg3
  iapply (step_prefetch m h 0 0) $$ [Hi0 Hn0]
  · isplitl [Hi0]; · iexact Hi0
    iexact Hn0
  iintro Hn0
  iapply (step_waitWin m ℓ c 3 1 (sh2 1) hO) $$ [Hf1 HO]
  · isplitl [Hf1]; · iexact Hf1
    isplitl [HO]; · iexact HO
    iexact Hlev
  iintro ⟨Hw1, Hv1, Hb1, HO⟩
  unfold loadWin
  iapply (step_load c winB (rW 1) (fun _ => rfl) (wt m ℓ c 3)) $$ Hw1
  iintro Hw1
  ihave Hi1 := (idleWin_intro c 1 _) $$ [Hw1 Hv1]
  · isplitl [Hw1]; · iexact Hw1
    iexact Hv1
  iapply (step_prefetch m h 1 1) $$ [Hi1 Hn1]
  · isplitl [Hi1]; · iexact Hi1
    iexact Hn1
  iintro Hn1
  unfold ownX
  iapply Hk
  isplitl [Hc0 Hc1 Hc2]
  · isplitl [Hc0]; · iexact Hc0
    isplitl [Hc1]; · iexact Hc1
    iexact Hc2
  isplitl [Hg0 Hg1 Hg2 Hg3]
  · isplitl [Hg0]; · iexact Hg0
    isplitl [Hg1]; · iexact Hg1
    isplitl [Hg2]; · iexact Hg2
    iexact Hg3
  isplitl [Hn0 Hn1]
  · isplitl [Hn0]; · iexact Hn0
    iexact Hn1
  isplitl [Hb0 Hb1]
  · isplitl [Hb0]; · iexact Hb0
    iexact Hb1
  iexact HO

/-! ## The hidden block -/

/-- The own hidden block's buffer, at any contents. -/
def anyH (c : Dev nD) : sProp 𝕄 := iprop(∃ f, (((c : Thread nD τ).loc cc0_scratch7) ↦{fullShare} f))

theorem set_unit_whole (b : Ref sig .tc) {off : Fin b.ty.shape.rank → Nat} (h : off = fun _ => 0)
    (inb : ∀ a, off a + b.ty.shape.size a ≤ b.ty.shape.size a) (hr : ∀ a, (Rect.unit off b.ty.shape.size inb).stride a = 1) :
    ((Memref.whole b : Memref sig .tc _ _ _).slice (Rect.unit off b.ty.shape.size inb) hr).view.set = Finset.univ := by
  subst h; exact Memref.set_access_whole b

theorem anyH_slice (c : Dev nD) : (anyH c : sProp 𝕄)
    ⊢ iprop(∃ f, ((hB.slice rH (fun _ => rfl)).view.loc (c : Thread nD τ) ↦[(hB.slice rH (fun _ => rfl)).view.set]{fullShare} f)) := by
  unfold anyH
  iintro ⟨%f, H⟩
  iexists f
  rw [show (hB.slice rH (fun _ => rfl)).view.set = Finset.univ from set_unit_whole cc0_scratch7 hz2 _ _]
  iexact H

theorem owns_hB (c : Dev nD) (q : PosShare TreeShare) (X : S64x1024.Idx → Elt F .bf16) :
    (owns (c : Thread nD τ) (hB.slice rH (fun _ => rfl)) q X : sProp 𝕄) = owns (c : Thread nD τ) hB q X :=
  (owns_unit_zero c cc0_scratch7 hz2 _ _ q X).trans (owns_whole (c : Thread nD τ) cc0_scratch7 q X).symm

/-- What device `c` waits with for its own three partial products and for the three it is sent. -/
def rsWait (ℓ : ℕ) (c : Dev nD) (k : Fin 3) : sProp 𝕄 :=
  iprop(atPos ER (rsRC c k) ℓ ∅ 0 ∗ cred (tallyAt (rsRC c k) (2 + 2 * ℓ) N) ∗ atPos ER (rsSC c k) ℓ ∅ 0 ∗ cred (tallyAt (rsSC c k) 0 N))
/-- What it has after. -/
def rsDone (ℓ : ℕ) (c : Dev nD) (k : Fin 3) : sProp 𝕄 :=
  iprop(atPos ER (rsRC c k) (ℓ + 1) ∅ 0 ∗ reached ER (rsRC c k) (ℓ + 1) ∗ atPos ER (rsSC c k) (ℓ + 1) ∅ 0 ∗ reached ER (rsSC c k) (ℓ + 1)
    ∗ anyAt c rB k ∗ anyAt c sB k ∗ slotG ℓ c k.rev)

theorem layer_hidden {ℓ : ℕ} (hℓ : ℓ < 3) (c : Dev nD) (O : CellTallies nD τ sig ℕ) (hO : Above (2 + 2 * ℓ) O)
    (K : FVec F S64x1024 .f32 → Pg F) (Q : PUnit → sProp 𝕄) :
    iprop(recs m ρ ∗ levAts L lv ∗ (rsWait ℓ c 0 ∗ rsWait ℓ c 1 ∗ rsWait ℓ c 2) ∗ anyH c ∗ owing c O)
      ⊢ iprop((((rsDone ℓ c 0 ∗ rsDone ℓ c 1 ∗ rsDone ℓ c 2) ∗ owns (c : Thread nD τ) hB fullShare (sentX m ℓ (xin m ρ ℓ) c) ∗ owing c O)
            -∗ WP c (K (hidX m ℓ (xin m ρ ℓ) c)) Q)
          -∗ WP c (hidden (ownX m ℓ (xin m ρ ℓ) c) K) Q) := by
  have hO0 : Above 0 O := above_mono (by omega) hO
  unfold hidden rsWait rsDone loadCh loadH storeH
  iintro ⟨#HR, #Hlev, ⟨⟨Har0, Hcr0, Has0, Hcs0⟩, ⟨Har1, Hcr1, Has1, Hcs1⟩, ⟨Har2, Hcr2, Has2, Hcs2⟩⟩, Hh, HO⟩ Hk
  iapply (step_waitRsR m ρ hℓ c 0 hO) $$ [Har0 Hcr0 HO]
  · isplitr; · iexact HR
    isplitr; · iexact Hlev
    isplitl [Hcr0]; · iexact Hcr0
    isplitl [HO]; · iexact HO
    iexact Har0
  iintro ⟨HO, Har0, #Hrr0, Hp0⟩
  iapply (step_waitRsR m ρ hℓ c 1 hO) $$ [Har1 Hcr1 HO]
  · isplitr; · iexact HR
    isplitr; · iexact Hlev
    isplitl [Hcr1]; · iexact Hcr1
    isplitl [HO]; · iexact HO
    iexact Har1
  iintro ⟨HO, Har1, #Hrr1, Hp1⟩
  iapply (step_waitRsR m ρ hℓ c 2 hO) $$ [Har2 Hcr2 HO]
  · isplitr; · iexact HR
    isplitr; · iexact Hlev
    isplitl [Hcr2]; · iexact Hcr2
    isplitl [HO]; · iexact HO
    iexact Har2
  iintro ⟨HO, Har2, #Hrr2, Hp2⟩
  unfold rsRPay
  icases Hp0 with ⟨Hp0, Hg0⟩
  icases Hp1 with ⟨Hp1, Hg1⟩
  icases Hp2 with ⟨Hp2, Hg2⟩
  iapply (step_load c rB (rC 0) (fun _ => rfl) (gotX m ℓ (xin m ρ ℓ) c 0)) $$ Hp0
  iintro Hp0
  iapply (step_load c rB (rC 1) (fun _ => rfl) (gotX m ℓ (xin m ρ ℓ) c 1)) $$ Hp1
  iintro Hp1
  iapply (step_load c rB (rC 2) (fun _ => rfl) (gotX m ℓ (xin m ρ ℓ) c 2)) $$ Hp2
  iintro Hp2
  ihave Hh := (anyH_slice c) $$ Hh
  iapply (step_loadStore c hB rH (fun _ => rfl) (k0_pay7 (ownX m ℓ (xin m ρ ℓ) c) (gotX m ℓ (xin m ρ ℓ) c 0) (gotX m ℓ (xin m ρ ℓ) c 1) (gotX m ℓ (xin m ρ ℓ) c 2))) $$ Hh
  iintro Hh
  ihave Hh := (Entails.of_eq (owns_hB c fullShare _)) $$ Hh
  iapply (step_waitRsS m ρ hℓ c 0 hO0) $$ [Has0 Hcs0 HO]
  · isplitr; · iexact HR
    isplitr; · iexact Hlev
    isplitl [Hcs0]; · iexact Hcs0
    isplitl [HO]; · iexact HO
    iexact Has0
  iintro ⟨HO, Has0, Hrs0, Hs0⟩
  iapply (step_waitRsS m ρ hℓ c 1 hO0) $$ [Has1 Hcs1 HO]
  · isplitr; · iexact HR
    isplitr; · iexact Hlev
    isplitl [Hcs1]; · iexact Hcs1
    isplitl [HO]; · iexact HO
    iexact Has1
  iintro ⟨HO, Has1, Hrs1, Hs1⟩
  iapply (step_waitRsS m ρ hℓ c 2 hO0) $$ [Has2 Hcs2 HO]
  · isplitr; · iexact HR
    isplitr; · iexact Hlev
    isplitl [Hcs2]; · iexact Hcs2
    isplitl [HO]; · iexact HO
    iexact Has2
  iintro ⟨HO, Has2, Hrs2, Hs2⟩
  unfold hidX sentX
  iapply Hk
  isplitr [Hh HO]
  · isplitl [Har0 Has0 Hrs0 Hp0 Hs0 Hg0]
    · isplitl [Har0]; · iexact Har0
      isplitr; · iexact Hrr0
      isplitl [Has0]; · iexact Has0
      isplitl [Hrs0]; · iexact Hrs0
      isplitl [Hp0]; · unfold anyAt; iapply (owns_any c (chS rB 0) _); iexact Hp0
      isplitl [Hs0]; · iexact Hs0
      iexact Hg0
    isplitl [Har1 Has1 Hrs1 Hp1 Hs1 Hg1]
    · isplitl [Har1]; · iexact Har1
      isplitr; · iexact Hrr1
      isplitl [Has1]; · iexact Has1
      isplitl [Hrs1]; · iexact Hrs1
      isplitl [Hp1]; · unfold anyAt; iapply (owns_any c (chS rB 1) _); iexact Hp1
      isplitl [Hs1]; · iexact Hs1
      iexact Hg1
    isplitl [Har2]; · iexact Har2
    isplitr; · iexact Hrr2
    isplitl [Has2]; · iexact Has2
    isplitl [Hrs2]; · iexact Hrs2
    isplitl [Hp2]; · unfold anyAt; iapply (owns_any c (chS rB 2) _); iexact Hp2
    isplitl [Hs2]; · iexact Hs2
    iexact Hg2
  isplitl [Hh]; · iexact Hh
  iexact HO

/-! ## The all-gather -/

/-- What sending the hidden block's copy `k` takes, besides its share of the block. -/
def agRes (ℓ : ℕ) (c : Dev nD) (k : Fin 3) : sProp 𝕄 :=
  iprop(slotG ℓ c k ∗ backR (ℓ + 1) (peer c k) k.rev
    ∗ dutyTok ER (agSC c k) ℓ 0 ∗ reached ER (agSC c k) ℓ ∗ dutyTok ER (agRC (peer c k) k) ℓ 0)
/-- What device `c` waits with for the hidden block it is sent and for its own copy. -/
def agWait (ℓ : ℕ) (c : Dev nD) (k : Fin 3) : sProp 𝕄 :=
  iprop(atPos ER (agRC c k) ℓ ∅ 0 ∗ cred (tallyAt (agRC c k) (3 + 2 * ℓ) N) ∗ atPos ER (agSC c k) ℓ ∅ 0)
/-- What it has after. -/
def agDone (ℓ : ℕ) (c : Dev nD) (k : Fin 3) : sProp 𝕄 :=
  iprop(atPos ER (agRC c k) (ℓ + 1) ∅ 0 ∗ reached ER (agRC c k) (ℓ + 1) ∗ atPos ER (agSC c k) (ℓ + 1) ∅ 0 ∗ reached ER (agSC c k) (ℓ + 1)
    ∗ anyAt c gB k ∗ backR (ℓ + 1) c k.rev)

theorem hB_split (c : Dev nD) (X : S64x1024.Idx → Elt F .bf16) :
    (owns (c : Thread nD τ) hB fullShare X : sProp 𝕄)
      ⊢ iprop(owns (c : Thread nD τ) hB (sh3 0) X ∗ owns (c : Thread nD τ) hB (sh3 1) X ∗ owns (c : Thread nD τ) hB (sh3 2) X) := by
  rw [owns_whole, owns_whole, owns_whole, owns_whole]
  iintro H
  ihave H := (pointsTo_share (PosShare.mem_left_op_right fullShare)).1 $$ H
  icases H with ⟨H0, H⟩
  ihave H := (pointsTo_share (PosShare.mem_left_op_right fullShare.right)).1 $$ H
  icases H with ⟨H1, H2⟩
  isplitl [H0]; · iexact H0
  isplitl [H1]; · iexact H1
  iexact H2
theorem hB_join (c : Dev nD) (X : S64x1024.Idx → Elt F .bf16) :
    iprop(owns (c : Thread nD τ) hB (sh3 0) X ∗ owns (c : Thread nD τ) hB (sh3 1) X ∗ owns (c : Thread nD τ) hB (sh3 2) X)
      ⊢ (anyH c : sProp 𝕄) := by
  rw [owns_whole, owns_whole, owns_whole]
  unfold anyH
  iintro ⟨H0, H1, H2⟩
  iexists X
  iapply (pointsTo_share (PosShare.mem_left_op_right fullShare)).2
  isplitl [H0]; · iexact H0
  iapply (pointsTo_share (PosShare.mem_left_op_right fullShare.right)).2
  isplitl [H1]; · iexact H1
  iexact H2

/-- A buffer of a layer's result, through the window its load and store use. -/
abbrev xWin (b : Memref sig .tc .vmem S64x2048 .f32) : Memref sig .tc .vmem S64x2048 .f32 := b.slice rX (fun _ => rfl)
def anyX (c : Dev nD) (b : Memref sig .tc .vmem S64x2048 .f32) : sProp 𝕄 :=
  iprop(∃ f, ((xWin b).view.loc (c : Thread nD τ) ↦[(xWin b).view.set]{fullShare} f))

theorem layer_ag (fin : FVec F S64x2048 .f32 → FVec F S64x2048 .f32) (hfin : ∀ v, fin v = v) {L' : Layer} {ℓ : ℕ} {c : Dev nD} (h : Fits L' ℓ c)
    (O : CellTallies nD τ sig ℕ) (hO : Above (3 + 2 * ℓ) O) (K : Pg F) (Q : PUnit → sProp 𝕄) :
    iprop(recs m ρ ∗ levAts L lv
        ∗ (agRes ℓ c 0 ∗ agRes ℓ c 1 ∗ agRes ℓ c 2)
        ∗ (agWait ℓ c 0 ∗ agWait ℓ c 1 ∗ agWait ℓ c 2)
        ∗ owns (c : Thread nD τ) hB fullShare (sentX m ℓ (xin m ρ ℓ) c)
        ∗ (flyWout m ℓ c 0 (sh4 0) ∗ flyWout m ℓ c 1 (sh4 1) ∗ flyWout m ℓ c 2 (sh4 2) ∗ flyWout m ℓ c 3 (sh4 3))
        ∗ anyX c L'.dst
        ∗ owing c (O + owG c ℓ 2 + owG c ℓ 1 + owG c ℓ 0))
      ⊢ iprop((((agDone ℓ c 0 ∗ agDone ℓ c 1 ∗ agDone ℓ c 2)
            ∗ anyH c
            ∗ (woPre m ℓ c 0 ∗ woPre m ℓ c 1 ∗ woPre m ℓ c 2 ∗ woPre m ℓ c 3)
            ∗ owns (c : Thread nD τ) (xWin L'.dst) fullShare (outX m ℓ (xin m ρ ℓ) c)
            ∗ owing c O) -∗ WP c K Q)
          -∗ WP c (agHalf fin L' c (hidX m ℓ (xin m ρ ℓ) c) K) Q) := by
  have hℓ := h.lt
  have hO0 : Above 0 O := above_mono (by omega) hO
  unfold agHalf agRes agWait agDone loadCh loadX storeX loadWout
  rw [h.wout]
  iintro ⟨#HR, #Hlev, ⟨⟨Hsl0, Hbk0, Hts0, #Hr0, Htr0⟩, ⟨Hsl1, Hbk1, Hts1, #Hr1, Htr1⟩, ⟨Hsl2, Hbk2, Hts2, #Hr2, Htr2⟩⟩,
    ⟨⟨Har0, Hcr0, Has0⟩, ⟨Har1, Hcr1, Has1⟩, ⟨Har2, Hcr2, Has2⟩⟩, Hh, ⟨Hf0, Hf1, Hf2, Hf3⟩, Hx, HO⟩ Hk
  ihave Hh := (hB_split c _) $$ Hh
  icases Hh with ⟨Hh0, Hh1, Hh2⟩
  iapply (step_sendAg m ρ ℓ hℓ c 0 _ (h.ag 0) (O + owG c ℓ 2 + owG c ℓ 1)) $$ [Hsl0 Hbk0 Hts0 Htr0 Hh0 HO]
  · isplitr; · iapply (recs_agS m ρ c 0); iexact HR
    isplitr; · iapply (recs_agR m ρ (peer c 0) 0); iexact HR
    isplitl [Hh0]; · iexact Hh0
    isplitl [Hsl0]; · iexact Hsl0
    isplitl [Hbk0]; · iexact Hbk0
    isplitl [HO]; · iexact HO
    isplitl [Hts0]; · iexact Hts0
    isplitr; · iexact Hr0
    iexact Htr0
  iintro ⟨Hcs0, HO⟩
  iapply (step_sendAg m ρ ℓ hℓ c 1 _ (h.ag 1) (O + owG c ℓ 2)) $$ [Hsl1 Hbk1 Hts1 Htr1 Hh1 HO]
  · isplitr; · iapply (recs_agS m ρ c 1); iexact HR
    isplitr; · iapply (recs_agR m ρ (peer c 1) 1); iexact HR
    isplitl [Hh1]; · iexact Hh1
    isplitl [Hsl1]; · iexact Hsl1
    isplitl [Hbk1]; · iexact Hbk1
    isplitl [HO]; · iexact HO
    isplitl [Hts1]; · iexact Hts1
    isplitr; · iexact Hr1
    iexact Htr1
  iintro ⟨Hcs1, HO⟩
  iapply (step_sendAg m ρ ℓ hℓ c 2 _ (h.ag 2) O) $$ [Hsl2 Hbk2 Hts2 Htr2 Hh2 HO]
  · isplitr; · iapply (recs_agS m ρ c 2); iexact HR
    isplitr; · iapply (recs_agR m ρ (peer c 2) 2); iexact HR
    isplitl [Hh2]; · iexact Hh2
    isplitl [Hsl2]; · iexact Hsl2
    isplitl [Hbk2]; · iexact Hbk2
    isplitl [HO]; · iexact HO
    isplitl [Hts2]; · iexact Hts2
    isplitr; · iexact Hr2
    iexact Htr2
  iintro ⟨Hcs2, HO⟩
  iapply (step_waitWout m ℓ c 0 (sh4 0) hO0) $$ [Hf0 HO]
  · isplitl [Hf0]; · iexact Hf0
    isplitl [HO]; · iexact HO
    iexact Hlev
  iintro ⟨Hw0, Hv0, Hb0, HO⟩
  iapply (step_load c woutB (rO 0) (fun _ => rfl) (wo m ℓ c 0)) $$ Hw0
  iintro Hw0
  iapply (step_waitAgR m ρ hℓ c 0 hO) $$ [Har0 Hcr0 HO]
  · isplitr; · iexact HR
    isplitr; · iexact Hlev
    isplitl [Hcr0]; · iexact Hcr0
    isplitl [HO]; · iexact HO
    iexact Har0
  iintro ⟨HO, Har0, Hrr0, Hp0⟩
  unfold agRPay
  icases Hp0 with ⟨Hp0, Hg0⟩
  iapply (step_waitWout m ℓ c 1 (sh4 1) hO0) $$ [Hf1 HO]
  · isplitl [Hf1]; · iexact Hf1
    isplitl [HO]; · iexact HO
    iexact Hlev
  iintro ⟨Hw1, Hv1, Hb1, HO⟩
  iapply (step_load c gB (rC 0) (fun _ => rfl) (hgotX m ℓ (xin m ρ ℓ) c 0)) $$ Hp0
  iintro Hp0
  iapply (step_load c woutB (rO 1) (fun _ => rfl) (wo m ℓ c 1)) $$ Hw1
  iintro Hw1
  iapply (step_waitAgR m ρ hℓ c 2 hO) $$ [Har2 Hcr2 HO]
  · isplitr; · iexact HR
    isplitr; · iexact Hlev
    isplitl [Hcr2]; · iexact Hcr2
    isplitl [HO]; · iexact HO
    iexact Har2
  iintro ⟨HO, Har2, Hrr2, Hp2⟩
  unfold agRPay
  icases Hp2 with ⟨Hp2, Hg2⟩
  iapply (step_waitWout m ℓ c 2 (sh4 2) hO0) $$ [Hf2 HO]
  · isplitl [Hf2]; · iexact Hf2
    isplitl [HO]; · iexact HO
    iexact Hlev
  iintro ⟨Hw2, Hv2, Hb2, HO⟩
  iapply (step_load c gB (rC 2) (fun _ => rfl) (hgotX m ℓ (xin m ρ ℓ) c 2)) $$ Hp2
  iintro Hp2
  iapply (step_load c woutB (rO 2) (fun _ => rfl) (wo m ℓ c 2)) $$ Hw2
  iintro Hw2
  iapply (step_waitAgR m ρ hℓ c 1 hO) $$ [Har1 Hcr1 HO]
  · isplitr; · iexact HR
    isplitr; · iexact Hlev
    isplitl [Hcr1]; · iexact Hcr1
    isplitl [HO]; · iexact HO
    iexact Har1
  iintro ⟨HO, Har1, Hrr1, Hp1⟩
  unfold agRPay
  icases Hp1 with ⟨Hp1, Hg1⟩
  iapply (step_waitWout m ℓ c 3 (sh4 3) hO0) $$ [Hf3 HO]
  · isplitl [Hf3]; · iexact Hf3
    isplitl [HO]; · iexact HO
    iexact Hlev
  iintro ⟨Hw3, Hv3, Hb3, HO⟩
  iapply (step_load c gB (rC 1) (fun _ => rfl) (hgotX m ℓ (xin m ρ ℓ) c 1)) $$ Hp1
  iintro Hp1
  iapply (step_load c woutB (rO 3) (fun _ => rfl) (wo m ℓ c 3)) $$ Hw3
  iintro Hw3
  unfold anyX
  iapply (step_loadStore c L'.dst rX (fun _ => rfl) (fin (outX m ℓ (xin m ρ ℓ) c))) $$ Hx
  iintro Hx
  iapply (step_waitAgS m ρ hℓ c 0 hO0) $$ [Has0 Hcs0 HO]
  · isplitr; · iexact HR
    isplitr; · iexact Hlev
    isplitl [Hcs0]; · iexact Hcs0
    isplitl [HO]; · iexact HO
    iexact Has0
  iintro ⟨HO, Has0, Hrs0, Hh0⟩
  iapply (step_waitAgS m ρ hℓ c 1 hO0) $$ [Has1 Hcs1 HO]
  · isplitr; · iexact HR
    isplitr; · iexact Hlev
    isplitl [Hcs1]; · iexact Hcs1
    isplitl [HO]; · iexact HO
    iexact Has1
  iintro ⟨HO, Has1, Hrs1, Hh1⟩
  iapply (step_waitAgS m ρ hℓ c 2 hO0) $$ [Has2 Hcs2 HO]
  · isplitr; · iexact HR
    isplitr; · iexact Hlev
    isplitl [Hcs2]; · iexact Hcs2
    isplitl [HO]; · iexact HO
    iexact Has2
  iintro ⟨HO, Has2, Hrs2, Hh2⟩
  iapply Hk
  isplitl [Har0 Hrr0 Has0 Hrs0 Hp0 Hg0 Har1 Hrr1 Has1 Hrs1 Hp1 Hg1 Har2 Hrr2 Has2 Hrs2 Hp2 Hg2]
  · isplitl [Har0 Hrr0 Has0 Hrs0 Hp0 Hg0]
    · isplitl [Har0]; · iexact Har0
      isplitl [Hrr0]; · iexact Hrr0
      isplitl [Has0]; · iexact Has0
      isplitl [Hrs0]; · iexact Hrs0
      isplitl [Hp0]; · unfold anyAt; iapply (owns_any c (chS gB 0) _); iexact Hp0
      iexact Hg0
    isplitl [Har1 Hrr1 Has1 Hrs1 Hp1 Hg1]
    · isplitl [Har1]; · iexact Har1
      isplitl [Hrr1]; · iexact Hrr1
      isplitl [Has1]; · iexact Has1
      isplitl [Hrs1]; · iexact Hrs1
      isplitl [Hp1]; · unfold anyAt; iapply (owns_any c (chS gB 1) _); iexact Hp1
      iexact Hg1
    isplitl [Har2]; · iexact Har2
    isplitl [Hrr2]; · iexact Hrr2
    isplitl [Has2]; · iexact Has2
    isplitl [Hrs2]; · iexact Hrs2
    isplitl [Hp2]; · unfold anyAt; iapply (owns_any c (chS gB 2) _); iexact Hp2
    iexact Hg2
  isplitl [Hh0 Hh1 Hh2]
  · iapply (hB_join c (sentX m ℓ (xin m ρ ℓ) c))
    unfold agSPay
    isplitl [Hh0]; · iexact Hh0
    isplitl [Hh1]; · iexact Hh1
    iexact Hh2
  unfold woPre
  isplitl [Hw0 Hv0 Hb0 Hw1 Hv1 Hb1 Hw2 Hv2 Hb2 Hw3 Hv3 Hb3]
  · isplitl [Hw0 Hv0 Hb0]
    · isplitl [Hw0 Hv0]
      · iapply (idleWout_intro c 0 _)
        isplitl [Hw0]; · iexact Hw0
        iexact Hv0
      iexact Hb0
    isplitl [Hw1 Hv1 Hb1]
    · isplitl [Hw1 Hv1]
      · iapply (idleWout_intro c 1 _)
        isplitl [Hw1]; · iexact Hw1
        iexact Hv1
      iexact Hb1
    isplitl [Hw2 Hv2 Hb2]
    · isplitl [Hw2 Hv2]
      · iapply (idleWout_intro c 2 _)
        isplitl [Hw2]; · iexact Hw2
        iexact Hv2
      iexact Hb2
    isplitl [Hw3 Hv3]
    · iapply (idleWout_intro c 3 _)
      isplitl [Hw3]; · iexact Hw3
      iexact Hv3
    iexact Hb3
  isplitl [Hx]
  · iapply (Entails.of_eq (congrArg (fun v => (owns (c : Thread nD τ) (xWin L'.dst) fullShare v : sProp 𝕄)) (hfin (outX m ℓ (xin m ρ ℓ) c)))); iexact Hx
  iexact HO

/-! ## A whole layer -/

/-- The own receive slot `k`, after the last layer: in the others it goes to its sender. -/
def keepR (ℓ : ℕ) (c : Dev nD) (k : Fin 3) : sProp 𝕄 := if ℓ + 1 < 3 then iprop(emp) else anyAt c rB k

theorem back_split (ℓ : ℕ) (c : Dev nD) (k : Fin 3) :
    iprop(anyAt c rB k.rev ∗ reached ER (rsRC c k.rev) (ℓ + 1)) ⊢ (iprop(backR (ℓ + 1) (peer c k) k.rev ∗ keepR ℓ c k.rev) : sProp 𝕄) := by
  unfold backR keepR
  rw [peer_rev]
  by_cases h : ℓ + 1 < 3
  · rw [if_pos h, if_pos h]
    iintro H
    isplitl [H]; · iexact H
    iempintro
  · rw [if_neg h, if_neg h]
    iintro ⟨H, -⟩
    isplitr; · iempintro
    iexact H
theorem back_join (ℓ : ℕ) (c : Dev nD) (k : Fin 3) :
    iprop(backR (ℓ + 1) c k ∗ keepR ℓ c k) ⊢ (slotR (ℓ + 1) c k : sProp 𝕄) := by
  unfold backR keepR slotR
  by_cases h : ℓ + 1 < 3
  · rw [if_pos h, if_pos h, if_pos h]
    iintro ⟨H, -⟩; iexact H
  · rw [if_neg h, if_neg h, if_neg h]
    iintro ⟨-, H⟩; iexact H

/-- What device `c` holds of chunk `k` when layer `ℓ` starts. -/
def chunkAt (ℓ : ℕ) (c : Dev nD) (k : Fin 3) : sProp 𝕄 :=
  iprop((atPos ER (rsSC c k) ℓ ∅ 0 ∗ reached ER (rsSC c k) ℓ) ∗ (atPos ER (rsRC c k) ℓ ∅ 0 ∗ reached ER (rsRC c k) ℓ)
    ∗ (atPos ER (agSC c k) ℓ ∅ 0 ∗ reached ER (agSC c k) ℓ) ∗ (atPos ER (agRC c k) ℓ ∅ 0 ∗ reached ER (agRC c k) ℓ)
    ∗ slotR ℓ c k ∗ anyAt c gB k ∗ anyAt c sB k)
/-- The duties it pays for chunk `k` in layer `ℓ`, and the credit it waits with. -/
def chunkDuty (ℓ : ℕ) (c : Dev nD) (k : Fin 3) : sProp 𝕄 :=
  iprop(dutyTok ER (rsSC c k) ℓ 0 ∗ dutyTok ER (rsRC (peer c k) k) ℓ 0 ∗ dutyTok ER (agSC c k) ℓ 0 ∗ dutyTok ER (agRC (peer c k) k) ℓ 0
    ∗ cred (tallyAt (rsRC c k) (2 + 2 * ℓ) N) ∗ cred (tallyAt (agRC c k) (3 + 2 * ℓ) N))

theorem step_layer (fin : FVec F S64x2048 .f32 → FVec F S64x2048 .f32) (hfin : ∀ v, fin v = v) {L' : Layer} {ℓ : ℕ} {c : Dev nD} (h : Fits L' ℓ c)
    (n : ℕ) (hn : n + ℓ = 2) (K : Pg F) (Q : PUnit → sProp 𝕄) :
    iprop(recs m ρ ∗ levAts L lv
        ∗ (chunkAt ℓ c 0 ∗ chunkAt ℓ c 1 ∗ chunkAt ℓ c 2)
        ∗ (chunkDuty ℓ c 0 ∗ chunkDuty ℓ c 1 ∗ chunkDuty ℓ c 2)
        ∗ (flyWin m ℓ c 0 0 (sh2 0) ∗ flyWin m ℓ c 1 1 (sh2 1))
        ∗ (woPre m ℓ c 0 ∗ woPre m ℓ c 1 ∗ woPre m ℓ c 2 ∗ woPre m ℓ c 3)
        ∗ (nextPre m ℓ c 0 ∗ nextPre m ℓ c 1)
        ∗ anyH c ∗ anyX c L'.dst ∗ owing c (owed (n + 1) c))
      ⊢ iprop((((chunkAt (ℓ + 1) c 0 ∗ chunkAt (ℓ + 1) c 1 ∗ chunkAt (ℓ + 1) c 2)
            ∗ (nextPost m ℓ c 0 0 ∗ nextPost m ℓ c 1 1)
            ∗ (woPre m ℓ c 0 ∗ woPre m ℓ c 1 ∗ woPre m ℓ c 2 ∗ woPre m ℓ c 3)
            ∗ (arrWin m ℓ c (sh2 0) ∗ arrWin m ℓ c (sh2 1))
            ∗ anyH c ∗ owns (c : Thread nD τ) (xWin L'.dst) fullShare (xin m ρ (ℓ + 1) c) ∗ owing c (owed n c)) -∗ WP c K Q)
          -∗ WP c (layer fin L' c (xin m ρ ℓ c) K) Q) := by
  have hℓ := h.lt
  have hi : 2 - n = ℓ := by omega
  have hA : Above (3 + 2 * ℓ) (owed n c) := by
    have := above_owed n (by omega) c
    rwa [show 7 - 2 * n = 3 + 2 * ℓ by omega] at this
  have hB : Above (2 + 2 * ℓ) (owed n c + owG c ℓ 2 + owG c ℓ 1 + owG c ℓ 0) :=
    above_add (above_add (above_add (above_mono (by omega) hA) (by omega) (by omega)) (by omega) (by omega)) (by omega) (by omega)
  rw [show owed (n + 1) c = owed n c + owG c ℓ 2 + owG c ℓ 1 + owG c ℓ 0 + owR c ℓ 2 + owR c ℓ 1 + owR c ℓ 0 by rw [owed, hi]]
  unfold layer chunkAt chunkDuty
  iintro ⟨#HR, #Hlev,
    ⟨⟨⟨Has0, #Hqs0⟩, ⟨Har0, #Hqr0⟩, ⟨Hbs0, #Hus0⟩, ⟨Hbr0, #Hur0⟩, Hsl0, Hg0, Hs0⟩,
     ⟨⟨Has1, #Hqs1⟩, ⟨Har1, #Hqr1⟩, ⟨Hbs1, #Hus1⟩, ⟨Hbr1, #Hur1⟩, Hsl1, Hg1, Hs1⟩,
     ⟨⟨Has2, #Hqs2⟩, ⟨Har2, #Hqr2⟩, ⟨Hbs2, #Hus2⟩, ⟨Hbr2, #Hur2⟩, Hsl2, Hg2, Hs2⟩⟩,
    ⟨⟨Hd0, He0, Hf0, Hi0, Hcr0, Hca0⟩, ⟨Hd1, He1, Hf1, Hi1, Hcr1, Hca1⟩, ⟨Hd2, He2, Hf2, Hi2, Hcr2, Hca2⟩⟩,
    Hw, Hwo, Hnx, Hh, Hx, HO⟩ Hk
  iapply (layer_rs m ρ h (owed n c + owG c ℓ 2 + owG c ℓ 1 + owG c ℓ 0) (above_mono (by omega) hB))
    $$ [Hw Hwo Hnx HO Hsl0 Hsl1 Hsl2 Hg0 Hg1 Hg2 Hs0 Hs1 Hs2 Hd0 Hd1 Hd2 He0 He1 He2]
  · isplitr; · iexact HR
    isplitr; · iexact Hlev
    isplitl [Hw]; · iexact Hw
    isplitr [Hwo Hnx HO]
    · unfold sendRes
      isplitl [Hsl0 Hs0 Hg2 Hd0 He0]
      · isplitl [Hsl0]; · iexact Hsl0
        isplitl [Hs0]; · iexact Hs0
        isplitl [Hg2]; · iexact Hg2
        isplitr; · iexact Hur2
        isplitl [Hd0]; · iexact Hd0
        isplitr; · iexact Hqs0
        iexact He0
      isplitl [Hsl1 Hs1 Hg1 Hd1 He1]
      · isplitl [Hsl1]; · iexact Hsl1
        isplitl [Hs1]; · iexact Hs1
        isplitl [Hg1]; · iexact Hg1
        isplitr; · iexact Hur1
        isplitl [Hd1]; · iexact Hd1
        isplitr; · iexact Hqs1
        iexact He1
      isplitl [Hsl2]; · iexact Hsl2
      isplitl [Hs2]; · iexact Hs2
      isplitl [Hg0]; · iexact Hg0
      isplitr; · iexact Hur0
      isplitl [Hd2]; · iexact Hd2
      isplitr; · iexact Hqs2
      iexact He2
    isplitl [Hwo]; · iexact Hwo
    isplitl [Hnx]; · iexact Hnx
    iexact HO
  iintro ⟨⟨Hcs0, Hcs1, Hcs2⟩, Hfo, Hnx, Hw, HO⟩
  iapply (layer_hidden m ρ hℓ c (owed n c + owG c ℓ 2 + owG c ℓ 1 + owG c ℓ 0) hB)
    $$ [Har0 Hcr0 Has0 Hcs0 Har1 Hcr1 Has1 Hcs1 Har2 Hcr2 Has2 Hcs2 Hh HO]
  · isplitr; · iexact HR
    isplitr; · iexact Hlev
    isplitr [Hh HO]
    · unfold rsWait
      isplitl [Har0 Hcr0 Has0 Hcs0]
      · isplitl [Har0]; · iexact Har0
        isplitl [Hcr0]; · iexact Hcr0
        isplitl [Has0]; · iexact Has0
        iexact Hcs0
      isplitl [Har1 Hcr1 Has1 Hcs1]
      · isplitl [Har1]; · iexact Har1
        isplitl [Hcr1]; · iexact Hcr1
        isplitl [Has1]; · iexact Has1
        iexact Hcs1
      isplitl [Har2]; · iexact Har2
      isplitl [Hcr2]; · iexact Hcr2
      isplitl [Has2]; · iexact Has2
      iexact Hcs2
    isplitl [Hh]; · iexact Hh
    iexact HO
  unfold rsDone
  iintro ⟨⟨⟨Har0, #Hvr0, Has0, #Hvs0, Hr0, Hs0, Hsg0⟩, ⟨Har1, #Hvr1, Has1, #Hvs1, Hr1, Hs1, Hsg1⟩, ⟨Har2, #Hvr2, Has2, #Hvs2, Hr2, Hs2, Hsg2⟩⟩, Hh, HO⟩
  ihave Hb0 := (back_split ℓ c 0) $$ [Hr2]
  · isplitl [Hr2]; · iexact Hr2
    iexact Hvr2
  icases Hb0 with ⟨Hbk0, Hke2⟩
  ihave Hb1 := (back_split ℓ c 1) $$ [Hr1]
  · isplitl [Hr1]; · iexact Hr1
    iexact Hvr1
  icases Hb1 with ⟨Hbk1, Hke1⟩
  ihave Hb2 := (back_split ℓ c 2) $$ [Hr0]
  · isplitl [Hr0]; · iexact Hr0
    iexact Hvr0
  icases Hb2 with ⟨Hbk2, Hke0⟩
  iapply (layer_ag m ρ fin hfin h (owed n c) hA) $$ [Hsg0 Hsg1 Hsg2 Hbk0 Hbk1 Hbk2 Hf0 Hf1 Hf2 Hi0 Hi1 Hi2 Hbr0 Hbr1 Hbr2 Hca0 Hca1 Hca2 Hbs0 Hbs1 Hbs2 Hh Hfo Hx HO]
  · isplitr; · iexact HR
    isplitr; · iexact Hlev
    isplitl [Hsg0 Hsg1 Hsg2 Hbk0 Hbk1 Hbk2 Hf0 Hf1 Hf2 Hi0 Hi1 Hi2]
    · unfold agRes
      isplitl [Hsg2 Hbk0 Hf0 Hi0]
      · isplitl [Hsg2]; · iexact Hsg2
        isplitl [Hbk0]; · iexact Hbk0
        isplitl [Hf0]; · iexact Hf0
        isplitr; · iexact Hus0
        iexact Hi0
      isplitl [Hsg1 Hbk1 Hf1 Hi1]
      · isplitl [Hsg1]; · iexact Hsg1
        isplitl [Hbk1]; · iexact Hbk1
        isplitl [Hf1]; · iexact Hf1
        isplitr; · iexact Hus1
        iexact Hi1
      isplitl [Hsg0]; · iexact Hsg0
      isplitl [Hbk2]; · iexact Hbk2
      isplitl [Hf2]; · iexact Hf2
      isplitr; · iexact Hus2
      iexact Hi2
    isplitl [Hbr0 Hbr1 Hbr2 Hca0 Hca1 Hca2 Hbs0 Hbs1 Hbs2]
    · unfold agWait
      isplitl [Hbr0 Hca0 Hbs0]
      · isplitl [Hbr0]; · iexact Hbr0
        isplitl [Hca0]; · iexact Hca0
        iexact Hbs0
      isplitl [Hbr1 Hca1 Hbs1]
      · isplitl [Hbr1]; · iexact Hbr1
        isplitl [Hca1]; · iexact Hca1
        iexact Hbs1
      isplitl [Hbr2]; · iexact Hbr2
      isplitl [Hca2]; · iexact Hca2
      iexact Hbs2
    isplitl [Hh]; · iexact Hh
    isplitl [Hfo]; · iexact Hfo
    isplitl [Hx]; · iexact Hx
    iexact HO
  unfold agDone
  iintro ⟨⟨⟨Hbr0, #Htr0, Hbs0, #Hts0, Hg0, Hb0⟩, ⟨Hbr1, #Htr1, Hbs1, #Hts1, Hg1, Hb1⟩, ⟨Hbr2, #Htr2, Hbs2, #Hts2, Hg2, Hb2⟩⟩, Hh, Hwo, Hx, HO⟩
  ihave Hsl0 := (back_join ℓ c 0) $$ [Hb2 Hke0]
  · isplitl [Hb2]; · iexact Hb2
    iexact Hke0
  ihave Hsl1 := (back_join ℓ c 1) $$ [Hb1 Hke1]
  · isplitl [Hb1]; · iexact Hb1
    iexact Hke1
  ihave Hsl2 := (back_join ℓ c 2) $$ [Hb0 Hke2]
  · isplitl [Hb0]; · iexact Hb0
    iexact Hke2
  iapply Hk
  isplitr [Hnx Hwo Hw Hh Hx HO]
  · isplitl [Has0 Har0 Hbs0 Hbr0 Hsl0 Hg0 Hs0]
    · isplitl [Has0]
      · isplitl [Has0]; · iexact Has0
        iexact Hvs0
      isplitl [Har0]
      · isplitl [Har0]; · iexact Har0
        iexact Hvr0
      isplitl [Hbs0]
      · isplitl [Hbs0]; · iexact Hbs0
        iexact Hts0
      isplitl [Hbr0]
      · isplitl [Hbr0]; · iexact Hbr0
        iexact Htr0
      isplitl [Hsl0]; · iexact Hsl0
      isplitl [Hg0]; · iexact Hg0
      iexact Hs0
    isplitl [Has1 Har1 Hbs1 Hbr1 Hsl1 Hg1 Hs1]
    · isplitl [Has1]
      · isplitl [Has1]; · iexact Has1
        iexact Hvs1
      isplitl [Har1]
      · isplitl [Har1]; · iexact Har1
        iexact Hvr1
      isplitl [Hbs1]
      · isplitl [Hbs1]; · iexact Hbs1
        iexact Hts1
      isplitl [Hbr1]
      · isplitl [Hbr1]; · iexact Hbr1
        iexact Htr1
      isplitl [Hsl1]; · iexact Hsl1
      isplitl [Hg1]; · iexact Hg1
      iexact Hs1
    isplitl [Has2]
    · isplitl [Has2]; · iexact Has2
      iexact Hvs2
    isplitl [Har2]
    · isplitl [Har2]; · iexact Har2
      iexact Hvr2
    isplitl [Hbs2]
    · isplitl [Hbs2]; · iexact Hbs2
      iexact Hts2
    isplitl [Hbr2]
    · isplitl [Hbr2]; · iexact Hbr2
      iexact Htr2
    isplitl [Hsl2]; · iexact Hsl2
    isplitl [Hg2]; · iexact Hg2
    iexact Hs2
  isplitl [Hnx]; · iexact Hnx
  isplitl [Hwo]; · iexact Hwo
  isplitl [Hw]; · iexact Hw
  isplitl [Hh]; · iexact Hh
  isplitl [Hx]; · iexact Hx
  iexact HO

end Cert.KernelIdeal.Mlp

end
-- ==== Proof.Slots.lean ====
/-
# The buffers cut into slots, and put back
-/
module

public import proofs.«01_k».proof.Proof.Layer
public import Idealize.ShloMosaic.Lib.Ring

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

theorem bigSep_fin2 (Φ : Fin 2 → sProp 𝕄) : bigSep Finset.univ Φ = iprop(Φ 0 ∗ Φ 1) := bigSep_univ_eq_bigSepL [0, 1] (by decide) (by decide) Φ
theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The slots of a buffer -/

theorem mem_rW (k : Fin 2) (y : S2x2048x1024.Idx) : y ∈ (rW k).set ↔ (y 0).val = k.val := by
  rw [Rect.mem_set_unit]
  constructor
  · intro h
    have h0 : k.val ≤ (y 0).val ∧ (y 0).val < k.val + 1 := h 0
    omega
  · intro h a
    match a with
    | 0 => show k.val ≤ (y 0).val ∧ (y 0).val < k.val + 1; omega
    | 1 => exact ⟨Nat.zero_le _, by have := (y 1).isLt; show (y 1).val < 0 + _; rw [Nat.zero_add]; exact this⟩
    | 2 => exact ⟨Nat.zero_le _, by have := (y 2).isLt; show (y 2).val < 0 + _; rw [Nat.zero_add]; exact this⟩
theorem rW_disjoint : ∀ k k' : Fin 2, k ≠ k' → Disjoint (rW k).set (rW k').set := by
  intro k k' hne; rw [Finset.disjoint_left]; intro y hy hy'; rw [mem_rW] at hy hy'; exact hne (Fin.ext (hy.symm.trans hy'))
theorem rW_cover : (Finset.univ : Finset (Fin 2)).biUnion (fun k => (rW k).set) = Finset.univ := by
  ext y; simp only [Finset.mem_biUnion, Finset.mem_univ, true_and, iff_true]; exact ⟨⟨(y 0).val, (y 0).isLt⟩, by rw [mem_rW]⟩

theorem mem_rO (k : Fin 4) (y : S4x1024x2048.Idx) : y ∈ (rO k).set ↔ (y 0).val = k.val := by
  rw [Rect.mem_set_unit]
  constructor
  · intro h
    have h0 : k.val ≤ (y 0).val ∧ (y 0).val < k.val + 1 := h 0
    omega
  · intro h a
    match a with
    | 0 => show k.val ≤ (y 0).val ∧ (y 0).val < k.val + 1; omega
    | 1 => exact ⟨Nat.zero_le _, by have := (y 1).isLt; show (y 1).val < 0 + _; rw [Nat.zero_add]; exact this⟩
    | 2 => exact ⟨Nat.zero_le _, by have := (y 2).isLt; show (y 2).val < 0 + _; rw [Nat.zero_add]; exact this⟩
theorem rO_disjoint : ∀ k k' : Fin 4, k ≠ k' → Disjoint (rO k).set (rO k').set := by
  intro k k' hne; rw [Finset.disjoint_left]; intro y hy hy'; rw [mem_rO] at hy hy'; exact hne (Fin.ext (hy.symm.trans hy'))
theorem rO_cover : (Finset.univ : Finset (Fin 4)).biUnion (fun k => (rO k).set) = Finset.univ := by
  ext y; simp only [Finset.mem_biUnion, Finset.mem_univ, true_and, iff_true]; exact ⟨⟨(y 0).val, (y 0).isLt⟩, by rw [mem_rO]⟩

theorem mem_rC (k : Fin 3) (y : S3x64x1024.Idx) : y ∈ (rC k).set ↔ (y 0).val = k.val := by
  rw [Rect.mem_set_unit]
  constructor
  · intro h
    have h0 : k.val ≤ (y 0).val ∧ (y 0).val < k.val + 1 := h 0
    omega
  · intro h a
    match a with
    | 0 => show k.val ≤ (y 0).val ∧ (y 0).val < k.val + 1; omega
    | 1 => exact ⟨Nat.zero_le _, by have := (y 1).isLt; show (y 1).val < 0 + _; rw [Nat.zero_add]; exact this⟩
    | 2 => exact ⟨Nat.zero_le _, by have := (y 2).isLt; show (y 2).val < 0 + _; rw [Nat.zero_add]; exact this⟩
theorem rC_disjoint : ∀ k k' : Fin 3, k ≠ k' → Disjoint (rC k).set (rC k').set := by
  intro k k' hne; rw [Finset.disjoint_left]; intro y hy hy'; rw [mem_rC] at hy hy'; exact hne (Fin.ext (hy.symm.trans hy'))
theorem rC_cover : (Finset.univ : Finset (Fin 3)).biUnion (fun k => (rC k).set) = Finset.univ := by
  ext y; simp only [Finset.mem_biUnion, Finset.mem_univ, true_and, iff_true]; exact ⟨⟨(y 0).val, (y 0).isLt⟩, by rw [mem_rC]⟩

/-- Window `r` of a buffer, at any contents. -/
def anyRect (c : Dev nD) (b : Ref sig .tc) (r : Rect b.ty.shape) (hr : ∀ a, r.stride a = 1) : sProp 𝕄 :=
  iprop(∃ f, (((Memref.whole b : Memref sig .tc _ _ _).slice r hr).view.loc (c : Thread nD τ)
    ↦[((Memref.whole b : Memref sig .tc _ _ _).slice r hr).view.set]{fullShare} f))
theorem anyRect_eq (c : Dev nD) (b : Ref sig .tc) (r : Rect b.ty.shape) (hr : ∀ a, r.stride a = 1) :
    (anyRect c b r hr : sProp 𝕄) = iprop(∃ f : Buf (Elt F) ((c : Thread nD τ).loc b), (((c : Thread nD τ).loc b) ↦[r.set]{fullShare} f)) := by
  unfold anyRect
  rw [show ((Memref.whole b : Memref sig .tc _ _ _).slice r hr).view.set = r.set from View.set_slice_whole _ _]

/-- A buffer at any contents is its slots at any contents; -/
theorem buf_split (c : Dev nD) (b : Ref sig .tc) {n : ℕ} (r : Fin n → Rect b.ty.shape) (hr : ∀ k a, (r k).stride a = 1)
    (hd : ∀ k k', k ≠ k' → Disjoint (r k).set (r k').set) (hc : Finset.univ.biUnion (fun k => (r k).set) = Finset.univ) :
    iprop(∃ f : Buf (Elt F) ((c : Thread nD τ).loc b), (((c : Thread nD τ).loc b) ↦{fullShare} f))
      ⊢ (bigSep Finset.univ fun k => anyRect c b (r k) (hr k) : sProp 𝕄) := by
  iintro ⟨%f, H⟩
  have h₁ : (bigSep Finset.univ fun k => (((c : Thread nD τ).loc b) ↦[(r k).set]{fullShare} f : sProp 𝕄)) ⊢ (bigSep Finset.univ fun k => anyRect c b (r k) (hr k) : sProp 𝕄) :=
    bigSep_mono fun k _ => by
      have h₂ : (((c : Thread nD τ).loc b) ↦[(r k).set]{fullShare} f : sProp 𝕄) ⊢ anyRect c b (r k) (hr k) := by
        rw [anyRect_eq]; iintro H; iexists f; iexact H
      exact h₂
  iapply h₁
  iapply (Entails.of_eq (Ring.pointsTo_blocks (ℓ := (c : Thread nD τ).loc b) (fun k => (r k).set) hd hc f))
  iexact H
/-- and back. -/
theorem buf_join (c : Dev nD) (b : Ref sig .tc) {n : ℕ} (r : Fin n → Rect b.ty.shape) (hr : ∀ k a, (r k).stride a = 1)
    (hd : ∀ k k', k ≠ k' → Disjoint (r k).set (r k').set) (hc : Finset.univ.biUnion (fun k => (r k).set) = Finset.univ)
    (f₀ : Buf (Elt F) ((c : Thread nD τ).loc b)) :
    (bigSep Finset.univ fun k => anyRect c b (r k) (hr k) : sProp 𝕄)
      ⊢ iprop(∃ f : Buf (Elt F) ((c : Thread nD τ).loc b), (((c : Thread nD τ).loc b) ↦{fullShare} f)) := by
  simp only [anyRect_eq]
  exact Ring.pointsTo_blocks_join_exists (ℓ := (c : Thread nD τ).loc b) (fun k => (r k).set) hd hc f₀

/-- A buffer at any contents. -/
abbrev anyBuf (c : Dev nD) (b : Ref sig .tc) : sProp 𝕄 := iprop(∃ f : Buf (Elt F) ((c : Thread nD τ).loc b), (((c : Thread nD τ).loc b) ↦{fullShare} f))

theorem sB_split (c : Dev nD) : (anyBuf c cc0_scratch4 : sProp 𝕄) ⊢ iprop(anyAt c sB 0 ∗ anyAt c sB 1 ∗ anyAt c sB 2) :=
  (buf_split c cc0_scratch4 rC (fun _ _ => rfl) rC_disjoint rC_cover).trans (Entails.of_eq (bigSep_fin3 _))
include m in
theorem sB_join (c : Dev nD) : iprop(anyAt c sB 0 ∗ anyAt c sB 1 ∗ anyAt c sB 2) ⊢ (anyBuf c cc0_scratch4 : sProp 𝕄) :=
  (Entails.of_eq (bigSep_fin3 (fun k => anyRect c cc0_scratch4 (rC k) (fun _ => rfl))).symm).trans
    (buf_join c cc0_scratch4 rC (fun _ _ => rfl) rC_disjoint rC_cover (m ((c : Thread nD τ).loc cc0_scratch4)))
theorem rB_split (c : Dev nD) : (anyBuf c cc0_scratch5 : sProp 𝕄) ⊢ iprop(anyAt c rB 0 ∗ anyAt c rB 1 ∗ anyAt c rB 2) :=
  (buf_split c cc0_scratch5 rC (fun _ _ => rfl) rC_disjoint rC_cover).trans (Entails.of_eq (bigSep_fin3 _))
include m in
theorem rB_join (c : Dev nD) : iprop(anyAt c rB 0 ∗ anyAt c rB 1 ∗ anyAt c rB 2) ⊢ (anyBuf c cc0_scratch5 : sProp 𝕄) :=
  (Entails.of_eq (bigSep_fin3 (fun k => anyRect c cc0_scratch5 (rC k) (fun _ => rfl))).symm).trans
    (buf_join c cc0_scratch5 rC (fun _ _ => rfl) rC_disjoint rC_cover (m ((c : Thread nD τ).loc cc0_scratch5)))
theorem gB_split (c : Dev nD) : (anyBuf c cc0_scratch6 : sProp 𝕄) ⊢ iprop(anyAt c gB 0 ∗ anyAt c gB 1 ∗ anyAt c gB 2) :=
  (buf_split c cc0_scratch6 rC (fun _ _ => rfl) rC_disjoint rC_cover).trans (Entails.of_eq (bigSep_fin3 _))
include m in
theorem gB_join (c : Dev nD) : iprop(anyAt c gB 0 ∗ anyAt c gB 1 ∗ anyAt c gB 2) ⊢ (anyBuf c cc0_scratch6 : sProp 𝕄) :=
  (Entails.of_eq (bigSep_fin3 (fun k => anyRect c cc0_scratch6 (rC k) (fun _ => rfl))).symm).trans
    (buf_join c cc0_scratch6 rC (fun _ _ => rfl) rC_disjoint rC_cover (m ((c : Thread nD τ).loc cc0_scratch6)))

/-- A slot of the weight tiles at any contents. -/
abbrev anyWin (c : Dev nD) (t : Fin 2) : sProp 𝕄 := anyRect c cc0_scratch2 (rW t) (fun _ => rfl)
abbrev anyWout (c : Dev nD) (t : Fin 4) : sProp 𝕄 := anyRect c cc0_scratch3 (rO t) (fun _ => rfl)
theorem winB_split (c : Dev nD) : (anyBuf c cc0_scratch2 : sProp 𝕄) ⊢ iprop(anyWin c 0 ∗ anyWin c 1) :=
  (buf_split c cc0_scratch2 rW (fun _ _ => rfl) rW_disjoint rW_cover).trans (Entails.of_eq (bigSep_fin2 _))
include m in
theorem winB_join (c : Dev nD) : iprop(anyWin c 0 ∗ anyWin c 1) ⊢ (anyBuf c cc0_scratch2 : sProp 𝕄) :=
  (Entails.of_eq (bigSep_fin2 (fun k => anyWin c k)).symm).trans
    (buf_join c cc0_scratch2 rW (fun _ _ => rfl) rW_disjoint rW_cover (m ((c : Thread nD τ).loc cc0_scratch2)))
theorem woutB_split (c : Dev nD) : (anyBuf c cc0_scratch3 : sProp 𝕄) ⊢ iprop(anyWout c 0 ∗ anyWout c 1 ∗ anyWout c 2 ∗ anyWout c 3) :=
  (buf_split c cc0_scratch3 rO (fun _ _ => rfl) rO_disjoint rO_cover).trans (Entails.of_eq (bigSep_fin4 _))
include m in
theorem woutB_join (c : Dev nD) : iprop(anyWout c 0 ∗ anyWout c 1 ∗ anyWout c 2 ∗ anyWout c 3) ⊢ (anyBuf c cc0_scratch3 : sProp 𝕄) :=
  (Entails.of_eq (bigSep_fin4 (fun k => anyWout c k)).symm).trans
    (buf_join c cc0_scratch3 rO (fun _ _ => rfl) rO_disjoint rO_cover (m ((c : Thread nD τ).loc cc0_scratch3)))

theorem idleWin_eq (c : Dev nD) (t : Fin 2) : (idleWin c t : sProp 𝕄) = iprop(anyWin c t ∗ semVal ((c : Thread nD τ), .dma (winSem t)) 0) := rfl
theorem idleWout_eq (c : Dev nD) (t : Fin 4) : (idleWout c t : sProp 𝕄) = iprop(anyWout c t ∗ semVal ((c : Thread nD τ), .dma (woutSem t)) 0) := rfl

/-- A result buffer, through the window its load and store use. -/
theorem anyX_eq (c : Dev nD) (b : Ref sig .tc) {off : Fin b.ty.shape.rank → Nat} (h : off = fun _ => 0)
    (inb : ∀ a, off a + b.ty.shape.size a ≤ b.ty.shape.size a) (hr : ∀ a, (Rect.unit off b.ty.shape.size inb).stride a = 1) :
    (anyRect c b (Rect.unit off b.ty.shape.size inb) hr : sProp 𝕄) = anyBuf c b := by
  unfold anyRect anyBuf
  rw [set_unit_whole b h inb hr]
theorem anyX_xa (c : Dev nD) : (anyX c (Memref.whole cc0_scratch0) : sProp 𝕄) = anyBuf c cc0_scratch0 := anyX_eq c cc0_scratch0 hz2 _ _
theorem anyX_xb (c : Dev nD) : (anyX c (Memref.whole cc0_scratch1) : sProp 𝕄) = anyBuf c cc0_scratch1 := anyX_eq c cc0_scratch1 hz2 _ _
theorem anyX_out (c : Dev nD) : (anyX c (Memref.whole cc0_stg1_0) : sProp 𝕄) = anyBuf c cc0_stg1_0 := anyX_eq c cc0_stg1_0 hz2 _ _
theorem owns_xa (c : Dev nD) (X : FVec F S64x2048 .f32) : (owns (c : Thread nD τ) (xWin (Memref.whole cc0_scratch0)) fullShare X : sProp 𝕄) = (((c : Thread nD τ).loc cc0_scratch0) ↦{fullShare} X) :=
  owns_unit_zero c cc0_scratch0 hz2 _ _ _ X
theorem owns_xb (c : Dev nD) (X : FVec F S64x2048 .f32) : (owns (c : Thread nD τ) (xWin (Memref.whole cc0_scratch1)) fullShare X : sProp 𝕄) = (((c : Thread nD τ).loc cc0_scratch1) ↦{fullShare} X) :=
  owns_unit_zero c cc0_scratch1 hz2 _ _ _ X
theorem owns_in (c : Dev nD) (X : FVec F S64x2048 .f32) : (owns (c : Thread nD τ) (xWin (Memref.whole cc0_stg0_0)) fullShare X : sProp 𝕄) = (((c : Thread nD τ).loc cc0_stg0_0) ↦{fullShare} X) :=
  owns_unit_zero c cc0_stg0_0 hz2 _ _ _ X
theorem owns_out (c : Dev nD) (X : FVec F S64x2048 .f32) : (owns (c : Thread nD τ) (xWin (Memref.whole cc0_stg1_0)) fullShare X : sProp 𝕄) = (((c : Thread nD τ).loc cc0_stg1_0) ↦{fullShare} X) :=
  owns_unit_zero c cc0_stg1_0 hz2 _ _ _ X

/-! ## The shares of the weight arrays -/

theorem arrWin_split (ℓ : ℕ) (c : Dev nD) : (arrWin m ℓ c fullShare : sProp 𝕄) ⊢ iprop(arrWin m ℓ c (sh2 0) ∗ arrWin m ℓ c (sh2 1)) := by
  unfold arrWin; exact (pointsTo_share (PosShare.mem_left_op_right fullShare)).1
theorem arrWin_join (ℓ : ℕ) (c : Dev nD) : iprop(arrWin m ℓ c (sh2 0) ∗ arrWin m ℓ c (sh2 1)) ⊢ (arrWin m ℓ c fullShare : sProp 𝕄) := by
  unfold arrWin; exact (pointsTo_share (PosShare.mem_left_op_right fullShare)).2
theorem arrWout_split (ℓ : ℕ) (c : Dev nD) :
    (arrWout m ℓ c fullShare : sProp 𝕄) ⊢ iprop(arrWout m ℓ c (sh4 0) ∗ arrWout m ℓ c (sh4 1) ∗ arrWout m ℓ c (sh4 2) ∗ arrWout m ℓ c (sh4 3)) := by
  unfold arrWout
  iintro H
  ihave H := (pointsTo_share (PosShare.mem_left_op_right fullShare)).1 $$ H
  icases H with ⟨H0, H1⟩
  ihave H0 := (pointsTo_share (PosShare.mem_left_op_right fullShare.left)).1 $$ H0
  icases H0 with ⟨H00, H01⟩
  ihave H1 := (pointsTo_share (PosShare.mem_left_op_right fullShare.right)).1 $$ H1
  icases H1 with ⟨H10, H11⟩
  isplitl [H00]; · iexact H00
  isplitl [H01]; · iexact H01
  isplitl [H10]; · iexact H10
  iexact H11
theorem arrWout_join (ℓ : ℕ) (c : Dev nD) :
    iprop(arrWout m ℓ c (sh4 0) ∗ arrWout m ℓ c (sh4 1) ∗ arrWout m ℓ c (sh4 2) ∗ arrWout m ℓ c (sh4 3)) ⊢ (arrWout m ℓ c fullShare : sProp 𝕄) := by
  unfold arrWout
  iintro ⟨H00, H01, H10, H11⟩
  iapply (pointsTo_share (PosShare.mem_left_op_right fullShare)).2
  isplitl [H00 H01]
  · iapply (pointsTo_share (PosShare.mem_left_op_right fullShare.left)).2
    isplitl [H00]; · iexact H00
    iexact H01
  · iapply (pointsTo_share (PosShare.mem_left_op_right fullShare.right)).2
    isplitl [H10]; · iexact H10
    iexact H11

/-- The four tiles of the second weight matrix at rest. -/
def tiles (c : Dev nD) : sProp 𝕄 := iprop(idleWout c 0 ∗ idleWout c 1 ∗ idleWout c 2 ∗ idleWout c 3)
def woPres (ℓ : ℕ) (c : Dev nD) : sProp 𝕄 := iprop(woPre m ℓ c 0 ∗ woPre m ℓ c 1 ∗ woPre m ℓ c 2 ∗ woPre m ℓ c 3)
theorem woPres_intro (ℓ : ℕ) (c : Dev nD) : iprop(tiles c ∗ arrWout m ℓ c fullShare) ⊢ (woPres m ℓ c : sProp 𝕄) := by
  unfold tiles woPres woPre
  iintro ⟨⟨H0, H1, H2, H3⟩, Ha⟩
  ihave Ha := (arrWout_split m ℓ c) $$ Ha
  icases Ha with ⟨A0, A1, A2, A3⟩
  isplitl [H0 A0]
  · isplitl [H0]; · iexact H0
    iexact A0
  isplitl [H1 A1]
  · isplitl [H1]; · iexact H1
    iexact A1
  isplitl [H2 A2]
  · isplitl [H2]; · iexact H2
    iexact A2
  isplitl [H3]; · iexact H3
  iexact A3
theorem woPres_elim (ℓ : ℕ) (c : Dev nD) : (woPres m ℓ c : sProp 𝕄) ⊢ iprop(tiles c ∗ arrWout m ℓ c fullShare) := by
  unfold tiles woPres woPre
  iintro ⟨⟨H0, A0⟩, ⟨H1, A1⟩, ⟨H2, A2⟩, ⟨H3, A3⟩⟩
  isplitl [H0 H1 H2 H3]
  · isplitl [H0]; · iexact H0
    isplitl [H1]; · iexact H1
    isplitl [H2]; · iexact H2
    iexact H3
  iapply (arrWout_join m ℓ c)
  isplitl [A0]; · iexact A0
  isplitl [A1]; · iexact A1
  isplitl [A2]; · iexact A2
  iexact A3

end Cert.KernelIdeal.Mlp

end
-- ==== Proof.Body.lean ====
/-
# The body of one device, from the launch's hand-over to its end
-/
module

public import proofs.«01_k».proof.Proof.Slots
public import Idealize.ShloMosaic.Lib.Pipeline.Value

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## What the body starts and ends with -/

/-- The barrier: the own position and credit, and the three signals to pay. -/
def barDuty (c : Dev nD) (k : Fin 3) : sProp 𝕄 :=
  iprop(dutyTok ER (barCell (peer c k)) 0 k.rev ∗ reached ER (barCell (peer c k)) 0)
/-- Chunk `k`'s positions, and that its rounds are begun. -/
def chunkPos (c : Dev nD) (k : Fin 3) : sProp 𝕄 :=
  iprop((atPos ER (rsSC c k) 0 ∅ 0 ∗ reached ER (rsSC c k) 0) ∗ (atPos ER (rsRC c k) 0 ∅ 0 ∗ reached ER (rsRC c k) 0)
    ∗ (atPos ER (agSC c k) 0 ∅ 0 ∗ reached ER (agSC c k) 0) ∗ (atPos ER (agRC c k) 0 ∅ 0 ∗ reached ER (agRC c k) 0))
/-- A layer's duties. -/
def duties3 (ℓ : ℕ) (c : Dev nD) : sProp 𝕄 := iprop(chunkDuty ℓ c 0 ∗ chunkDuty ℓ c 1 ∗ chunkDuty ℓ c 2)
def chunks (ℓ : ℕ) (c : Dev nD) : sProp 𝕄 := iprop(chunkAt ℓ c 0 ∗ chunkAt ℓ c 1 ∗ chunkAt ℓ c 2)

theorem slotR_intro (c : Dev nD) (k : Fin 3) :
    iprop(anyAt c rB k.rev ∗ reached ER (rsRC c k.rev) 0) ⊢ (slotR 0 (peer c k) k.rev : sProp 𝕄) := by
  unfold slotR
  rw [peer_rev, if_pos (by decide)]

theorem step_prelude (c : Dev nD) (K : Pg F) (Q : PUnit → sProp 𝕄) :
    iprop(recs m ρ ∗ levAts L lv ∗ (idleWin c 0 ∗ idleWin c 1) ∗ arrWin m 0 c fullShare
        ∗ (barDuty c 0 ∗ barDuty c 1 ∗ barDuty c 2) ∗ (atPos ER (barCell c) 0 ∅ 0 ∗ cred (tallyAt (barCell c) 1 3))
        ∗ (anyAt c rB 0 ∗ anyAt c rB 1 ∗ anyAt c rB 2)
        ∗ (reached ER (rsRC c 0) 0 ∗ reached ER (rsRC c 1) 0 ∗ reached ER (rsRC c 2) 0)
        ∗ owing c (O₀ c))
      ⊢ iprop((((flyWin m 0 c 0 0 (sh2 0) ∗ flyWin m 0 c 1 1 (sh2 1)) ∗ atPos ER (barCell c) 1 ∅ 0
            ∗ (slotR 0 c 0 ∗ slotR 0 c 1 ∗ slotR 0 c 2) ∗ owing c (owed 3 c)) -∗ WP c K Q)
          -∗ WP c (prelude (bars c) c K) Q) := by
  unfold prelude barDuty
  rw [show (1#32 : BitVec 32).toInt = 1 from by decide, show (3#32 : BitVec 32).toInt = 3 from by decide]
  iintro ⟨#HR, #Hlev, ⟨Hi0, Hi1⟩, Ha, ⟨⟨Ht0, #Hq0⟩, ⟨Ht1, #Hq1⟩, ⟨Ht2, #Hq2⟩⟩, ⟨Hat, Hc⟩, ⟨Hr0, Hr1, Hr2⟩, ⟨#Hv0, #Hv1, #Hv2⟩, HO⟩ Hk
  ihave Ha := (arrWin_split m 0 c) $$ Ha
  icases Ha with ⟨Ha0, Ha1⟩
  iapply (step_enqWin m 0 c 0 0 (sh2 0)) $$ [Hi0 Ha0]
  · isplitl [Hi0]; · iexact Hi0
    iexact Ha0
  iintro Hf0
  iapply (step_enqWin m 0 c 1 1 (sh2 1)) $$ [Hi1 Ha1]
  · isplitl [Hi1]; · iexact Hi1
    iexact Ha1
  iintro Hf1
  unfold O₀
  ihave Hs0 := (slotR_intro c 0) $$ [Hr2]
  · isplitl [Hr2]; · iexact Hr2
    iexact Hv2
  iapply (step_signal m ρ c 0 (bars c 0) (bars_eq c 0) (owed 3 c + owB c 2 + owB c 1) 1 rfl) $$ [HO Ht0 Hs0]
  · isplitr; · iapply (recs_bar m ρ (peer c 0)); iexact HR
    isplitl [HO]; · iexact HO
    isplitl [Ht0]; · iexact Ht0
    isplitl [Hs0]; · iexact Hs0
    iexact Hq0
  iintro HO
  ihave Hs1 := (slotR_intro c 1) $$ [Hr1]
  · isplitl [Hr1]; · iexact Hr1
    iexact Hv1
  iapply (step_signal m ρ c 1 (bars c 1) (bars_eq c 1) (owed 3 c + owB c 2) 1 rfl) $$ [HO Ht1 Hs1]
  · isplitr; · iapply (recs_bar m ρ (peer c 1)); iexact HR
    isplitl [HO]; · iexact HO
    isplitl [Ht1]; · iexact Ht1
    isplitl [Hs1]; · iexact Hs1
    iexact Hq1
  iintro HO
  ihave Hs2 := (slotR_intro c 2) $$ [Hr0]
  · isplitl [Hr0]; · iexact Hr0
    iexact Hv0
  iapply (step_signal m ρ c 2 (bars c 2) (bars_eq c 2) (owed 3 c) 1 rfl) $$ [HO Ht2 Hs2]
  · isplitr; · iapply (recs_bar m ρ (peer c 2)); iexact HR
    isplitl [HO]; · iexact HO
    isplitl [Ht2]; · iexact Ht2
    isplitl [Hs2]; · iexact Hs2
    iexact Hq2
  iintro HO
  iapply (step_barrier m ρ c (above_mono (by decide) (above_owed 3 (by decide) c))) $$ [Hc HO Hat]
  · isplitr; · iapply (recs_bar m ρ c); iexact HR
    isplitl [Hc]; · iexact Hc
    isplitl [HO]; · iexact HO
    isplitr; · iexact Hlev
    iexact Hat
  iintro ⟨HO, Hat, Hs0, Hs1, Hs2⟩
  iapply Hk
  isplitl [Hf0 Hf1]
  · isplitl [Hf0]; · iexact Hf0
    iexact Hf1
  isplitl [Hat]; · iexact Hat
  isplitl [Hs0 Hs1 Hs2]
  · isplitl [Hs0]; · iexact Hs0
    isplitl [Hs1]; · iexact Hs1
    iexact Hs2
  iexact HO

/-! ## The three layers are layers of the network -/

theorem fits0 (c : Dev nD) : Fits (L0 c) 0 c := ⟨by decide, rfl, rfl, rfl, L0_rs c, L0_ag c⟩
theorem fits1 (c : Dev nD) : Fits (L1 c) 1 c := ⟨by decide, rfl, rfl, rfl, L1_rs c, L1_ag c⟩
theorem fits2 (c : Dev nD) : Fits (L2 c) 2 c := ⟨by decide, rfl, rfl, rfl, L2_rs c, L2_ag c⟩

theorem src0_eq (c : Dev nD) (X : FVec F S64x2048 .f32) : (owns (c : Thread nD τ) (xWin (L0 c).src) fullShare X : sProp 𝕄) = (((c : Thread nD τ).loc cc0_stg0_0) ↦{fullShare} X) := owns_in c X
theorem src1_eq (c : Dev nD) (X : FVec F S64x2048 .f32) : (owns (c : Thread nD τ) (xWin (L1 c).src) fullShare X : sProp 𝕄) = (((c : Thread nD τ).loc cc0_scratch0) ↦{fullShare} X) := owns_xa c X
theorem src2_eq (c : Dev nD) (X : FVec F S64x2048 .f32) : (owns (c : Thread nD τ) (xWin (L2 c).src) fullShare X : sProp 𝕄) = (((c : Thread nD τ).loc cc0_scratch1) ↦{fullShare} X) := owns_xb c X
theorem dst0_eq (c : Dev nD) (X : FVec F S64x2048 .f32) : (owns (c : Thread nD τ) (xWin (L0 c).dst) fullShare X : sProp 𝕄) = (((c : Thread nD τ).loc cc0_scratch0) ↦{fullShare} X) := owns_xa c X
theorem dst0_any (c : Dev nD) : (anyX c (L0 c).dst : sProp 𝕄) = anyBuf c cc0_scratch0 := anyX_xa c
theorem dst1_eq (c : Dev nD) (X : FVec F S64x2048 .f32) : (owns (c : Thread nD τ) (xWin (L1 c).dst) fullShare X : sProp 𝕄) = (((c : Thread nD τ).loc cc0_scratch1) ↦{fullShare} X) := owns_xb c X
theorem dst1_any (c : Dev nD) : (anyX c (L1 c).dst : sProp 𝕄) = anyBuf c cc0_scratch1 := anyX_xb c
theorem dst2_eq (c : Dev nD) (X : FVec F S64x2048 .f32) : (owns (c : Thread nD τ) (xWin (L2 c).dst) fullShare X : sProp 𝕄) = (((c : Thread nD τ).loc cc0_stg1_0) ↦{fullShare} X) := owns_out c X
theorem dst2_any (c : Dev nD) : (anyX c (L2 c).dst : sProp 𝕄) = anyBuf c cc0_stg1_0 := anyX_out c
theorem anyH_eq (c : Dev nD) : (anyH c : sProp 𝕄) = anyBuf c cc0_scratch7 := rfl
theorem pay1_id (v : FVec F S64x2048 .f32) : k0_pay1 v = v := shapeCast_self _ _

/-! ## The end: the cells closed -/

theorem close_cell (g : GSem nD τ sig) (R : ℕ) (hR : ∀ r, R ≤ r → (Rd (F := F) m ρ).duties g r = ∅) :
    iprop(Inv m ρ g ∗ atPos ER g R ∅ 0) ⊢ (iprop(|={Set.univ}=> semVal g 0) : sProp 𝕄) := by
  unfold Inv
  iintro ⟨⟨%κ, #HI⟩, Ha⟩
  iapply (Rounds.cell_close ER (Rd m ρ) (Set.mem_univ κ) (fun h => h) hR)
  isplitr; · iexact HI
  iexact Ha

/-- Chunk `k`'s four semaphores at zero. -/
def chunkZero (c : Dev nD) (k : Fin 3) : sProp 𝕄 :=
  iprop(semVal (rsSC c k) 0 ∗ semVal (rsRC c k) 0 ∗ semVal (agSC c k) 0 ∗ semVal (agRC c k) 0)
/-- and its three slots at any contents. -/
def chunkMem (c : Dev nD) (k : Fin 3) : sProp 𝕄 := iprop(anyAt c rB k ∗ anyAt c gB k ∗ anyAt c sB k)

theorem close_chunk (c : Dev nD) (k : Fin 3) :
    iprop(recs m ρ ∗ chunkAt 3 c k) ⊢ (iprop(|={Set.univ}=> (chunkZero c k ∗ chunkMem c k)) : sProp 𝕄) := by
  unfold chunkAt chunkZero chunkMem slotR
  rw [if_neg (by decide)]
  iintro ⟨#HR, ⟨H1, -⟩, ⟨H2, -⟩, ⟨H3, -⟩, ⟨H4, -⟩, Hr, Hg, Hs⟩
  imod (close_cell m ρ (rsSC c k) 3 (fun r h => duties_later m ρ c r _ h)) $$ [H1] with Z1
  · isplitr; · iapply (recs_rsS m ρ c k); iexact HR
    iexact H1
  imod (close_cell m ρ (rsRC c k) 3 (fun r h => duties_later m ρ c r _ h)) $$ [H2] with Z2
  · isplitr; · iapply (recs_rsR m ρ c k); iexact HR
    iexact H2
  imod (close_cell m ρ (agSC c k) 3 (fun r h => duties_later m ρ c r _ h)) $$ [H3] with Z3
  · isplitr; · iapply (recs_agS m ρ c k); iexact HR
    iexact H3
  imod (close_cell m ρ (agRC c k) 3 (fun r h => duties_later m ρ c r _ h)) $$ [H4] with Z4
  · isplitr; · iapply (recs_agR m ρ c k); iexact HR
    iexact H4
  imodintro
  isplitl [Z1 Z2 Z3 Z4]
  · isplitl [Z1]; · iexact Z1
    isplitl [Z2]; · iexact Z2
    isplitl [Z3]; · iexact Z3
    iexact Z4
  isplitl [Hr]; · iexact Hr
  isplitl [Hg]; · iexact Hg
  iexact Hs

/-- The six semaphores of the weight tiles at zero. -/
def tileSems (c : Dev nD) : sProp 𝕄 :=
  iprop((semVal ((c : Thread nD τ), .dma (winSem 0)) 0 ∗ semVal ((c : Thread nD τ), .dma (winSem 1)) 0)
    ∗ (semVal ((c : Thread nD τ), .dma (woutSem 0)) 0 ∗ semVal ((c : Thread nD τ), .dma (woutSem 1)) 0
      ∗ semVal ((c : Thread nD τ), .dma (woutSem 2)) 0 ∗ semVal ((c : Thread nD τ), .dma (woutSem 3)) 0))
/-- The six weight arrays as they were. -/
def arrays (c : Dev nD) : sProp 𝕄 :=
  iprop(arrWin m 0 c fullShare ∗ arrWin m 1 c fullShare ∗ arrWin m 2 c fullShare
    ∗ arrWout m 0 c fullShare ∗ arrWout m 1 c fullShare ∗ arrWout m 2 c fullShare)
/-- The scratch buffers at any contents. -/
def scratch (c : Dev nD) : sProp 𝕄 :=
  iprop(anyBuf c cc0_scratch0 ∗ anyBuf c cc0_scratch1 ∗ anyBuf c cc0_scratch2 ∗ anyBuf c cc0_scratch3
    ∗ anyBuf c cc0_scratch4 ∗ anyBuf c cc0_scratch5 ∗ anyBuf c cc0_scratch6 ∗ anyBuf c cc0_scratch7)

/-- What a device starts with, besides its memory. -/
def ghost (c : Dev nD) : sProp 𝕄 :=
  iprop(recs m ρ ∗ levAts L lv ∗ (barDuty c 0 ∗ barDuty c 1 ∗ barDuty c 2) ∗ (atPos ER (barCell c) 0 ∅ 0 ∗ cred (tallyAt (barCell c) 1 3))
    ∗ (chunkPos c 0 ∗ chunkPos c 1 ∗ chunkPos c 2) ∗ (duties3 0 c ∗ duties3 1 c ∗ duties3 2 c) ∗ tileSems c)
/-- What it ends with, besides its memory. -/
def zeros (c : Dev nD) : sProp 𝕄 :=
  iprop(semVal (barCell c) 0 ∗ (chunkZero c 0 ∗ chunkZero c 1 ∗ chunkZero c 2) ∗ tileSems c)

theorem next_now (ℓ : ℕ) (h : ℓ < 2) (c : Dev nD) : (arrWin m (ℓ + 1) c fullShare : sProp 𝕄) ⊢ iprop(nextPre m ℓ c 0 ∗ nextPre m ℓ c 1) := by
  unfold nextPre; rw [if_pos h, if_pos h]; exact arrWin_split m (ℓ + 1) c
theorem next_fly (ℓ : ℕ) (h : ℓ < 2) (c : Dev nD) :
    iprop(nextPost m ℓ c 0 0 ∗ nextPost m ℓ c 1 1) ⊢ (iprop(flyWin m (ℓ + 1) c 0 0 (sh2 0) ∗ flyWin m (ℓ + 1) c 1 1 (sh2 1)) : sProp 𝕄) := by
  unfold nextPost; rw [if_pos h, if_pos h]
theorem next_none (c : Dev nD) : iprop(emp) ⊢ (iprop(nextPre m 2 c 0 ∗ nextPre m 2 c 1) : sProp 𝕄) := by
  unfold nextPre; rw [if_neg (by decide), if_neg (by decide)]
  iintro -
  isplitr; · iempintro
  iempintro
theorem next_idle (c : Dev nD) : iprop(nextPost m 2 c 0 0 ∗ nextPost m 2 c 1 1) ⊢ (iprop(idleWin c 0 ∗ idleWin c 1) : sProp 𝕄) := by
  unfold nextPost; rw [if_neg (by decide), if_neg (by decide)]

theorem chunks_intro (c : Dev nD) :
    iprop((chunkPos c 0 ∗ chunkPos c 1 ∗ chunkPos c 2) ∗ (slotR 0 c 0 ∗ slotR 0 c 1 ∗ slotR 0 c 2)
        ∗ (anyAt c gB 0 ∗ anyAt c gB 1 ∗ anyAt c gB 2) ∗ (anyAt c sB 0 ∗ anyAt c sB 1 ∗ anyAt c sB 2))
      ⊢ (chunks 0 c : sProp 𝕄) := by
  unfold chunks chunkAt chunkPos
  iintro ⟨⟨⟨A0, B0, C0, D0⟩, ⟨A1, B1, C1, D1⟩, ⟨A2, B2, C2, D2⟩⟩, ⟨R0, R1, R2⟩, ⟨G0, G1, G2⟩, ⟨S0, S1, S2⟩⟩
  isplitl [A0 B0 C0 D0 R0 G0 S0]
  · isplitl [A0]; · iexact A0
    isplitl [B0]; · iexact B0
    isplitl [C0]; · iexact C0
    isplitl [D0]; · iexact D0
    isplitl [R0]; · iexact R0
    isplitl [G0]; · iexact G0
    iexact S0
  isplitl [A1 B1 C1 D1 R1 G1 S1]
  · isplitl [A1]; · iexact A1
    isplitl [B1]; · iexact B1
    isplitl [C1]; · iexact C1
    isplitl [D1]; · iexact D1
    isplitl [R1]; · iexact R1
    isplitl [G1]; · iexact G1
    iexact S1
  isplitl [A2]; · iexact A2
  isplitl [B2]; · iexact B2
  isplitl [C2]; · iexact C2
  isplitl [D2]; · iexact D2
  isplitl [R2]; · iexact R2
  isplitl [G2]; · iexact G2
  iexact S2

theorem reached_of_pos (c : Dev nD) (k : Fin 3) : (chunkPos c k : sProp 𝕄) ⊢ iprop(reached ER (rsRC c k) 0 ∗ chunkPos c k) := by
  unfold chunkPos
  iintro ⟨H1, ⟨H2, #Hr⟩, H3⟩
  isplitr; · iexact Hr
  isplitl [H1]; · iexact H1
  isplitl [H2]
  · isplitl [H2]; · iexact H2
    iexact Hr
  iexact H3

theorem wp_body_device (c : Dev nD) (k : Dev nD → Pg F) (Q : PUnit → sProp 𝕄) : WP c (.op .deviceId k) Q = WP c (k c) Q := wp_deviceId ..

/-- The whole body, from what the launch hands over. -/
theorem sound_body (c : Dev nD) (Kt : PUnit → sProp 𝕄) :
    iprop((ghost m ρ c ∗ arrays m c ∗ scratch c) ∗ owing c (O₀ c)
        ∗ (((c : Thread nD τ).loc cc0_stg0_0) ↦{fullShare} xin m ρ 0 c) ∗ anyBuf c cc0_stg1_0
        ∗ (((zeros c ∗ arrays m c ∗ scratch c) ∗ owing c 0
            ∗ (((c : Thread nD τ).loc cc0_stg0_0) ↦{fullShare} xin m ρ 0 c) ∗ (((c : Thread nD τ).loc cc0_stg1_0) ↦{fullShare} xin m ρ 3 c)) -∗ Kt ⟨⟩))
      ⊢ WP c body Kt := by
  unfold body
  rw [wp_body_device]
  unfold ghost arrays scratch tileSems zeros
  iintro ⟨⟨⟨#HR, #Hlev, Hbd, Hbar, ⟨HP0, HP1, HP2⟩, ⟨HD0, HD1, HD2⟩, ⟨⟨Hv0, Hv1⟩, ⟨Hu0, Hu1, Hu2, Hu3⟩⟩⟩,
    ⟨Hw0, Hw1, Hw2, Hz0, Hz1, Hz2⟩, ⟨Hxa, Hxb, Hbw, Hbo, Hbs, Hbr, Hbg, Hbh⟩⟩, HO, Hin, Hout, Hk⟩
  ihave Hbw := (winB_split c) $$ Hbw
  icases Hbw with ⟨Hb0, Hb1⟩
  ihave Hbo := (woutB_split c) $$ Hbo
  icases Hbo with ⟨Ho0, Ho1, Ho2, Ho3⟩
  ihave Hbh := (Entails.of_eq (anyH_eq c).symm) $$ Hbh
  ihave Hbs := (sB_split c) $$ Hbs
  ihave Hbr := (rB_split c) $$ Hbr
  ihave Hbg := (gB_split c) $$ Hbg
  ihave HP0 := (reached_of_pos c 0) $$ HP0
  icases HP0 with ⟨#HQ0, HP0⟩
  ihave HP1 := (reached_of_pos c 1) $$ HP1
  icases HP1 with ⟨#HQ1, HP1⟩
  ihave HP2 := (reached_of_pos c 2) $$ HP2
  icases HP2 with ⟨#HQ2, HP2⟩
  iapply (step_prelude m ρ c) $$ [Hb0 Hb1 Hv0 Hv1 Hw0 Hbd Hbar Hbr HO]
  · isplitr; · iexact HR
    isplitr; · iexact Hlev
    isplitl [Hb0 Hb1 Hv0 Hv1]
    · isplitl [Hb0 Hv0]
      · irw [idleWin_eq]
        isplitl [Hb0]; · iexact Hb0
        iexact Hv0
      · irw [idleWin_eq]
        isplitl [Hb1]; · iexact Hb1
        iexact Hv1
    isplitl [Hw0]; · iexact Hw0
    isplitl [Hbd]; · iexact Hbd
    isplitl [Hbar]; · iexact Hbar
    isplitl [Hbr]; · iexact Hbr
    isplitr
    · isplitr; · iexact HQ0
      isplitr; · iexact HQ1
      iexact HQ2
    iexact HO
  iintro ⟨Hfly, Hat, Hsl, HO⟩
  ihave Hch := (chunks_intro c) $$ [HP0 HP1 HP2 Hsl Hbg Hbs]
  · isplitl [HP0 HP1 HP2]
    · isplitl [HP0]; · iexact HP0
      isplitl [HP1]; · iexact HP1
      iexact HP2
    isplitl [Hsl]; · iexact Hsl
    isplitl [Hbg]; · iexact Hbg
    iexact Hbs
  ihave Hti : tiles c $$ [Ho0 Ho1 Ho2 Ho3 Hu0 Hu1 Hu2 Hu3]
  · unfold tiles
    irw [idleWout_eq, idleWout_eq, idleWout_eq, idleWout_eq]
    isplitl [Ho0 Hu0]
    · isplitl [Ho0]; · iexact Ho0
      iexact Hu0
    isplitl [Ho1 Hu1]
    · isplitl [Ho1]; · iexact Ho1
      iexact Hu1
    isplitl [Ho2 Hu2]
    · isplitl [Ho2]; · iexact Ho2
      iexact Hu2
    isplitl [Ho3]; · iexact Ho3
    iexact Hu3
  -- layer 0
  ihave Hin := (Entails.of_eq (src0_eq c (xin m ρ 0 c)).symm) $$ Hin
  iapply (step_load c (L0 c).src rX (fun _ => rfl) (xin m ρ 0 c)) $$ Hin
  iintro Hin
  rw [pay1_id]
  ihave Hnx := (next_now m 0 (by decide) c) $$ Hw1
  ihave Hwo := (woPres_intro m 0 c) $$ [Hti Hz0]
  · isplitl [Hti]; · iexact Hti
    iexact Hz0
  unfold chunks duties3 woPres
  ihave Hxa := (Entails.of_eq (dst0_any c).symm) $$ Hxa
  iapply (step_layer m ρ k0_pay1 pay1_id (fits0 c) 2 rfl) $$ [Hch HD0 Hfly Hwo Hnx Hbh Hxa HO]
  · isplitr; · iexact HR
    isplitr; · iexact Hlev
    isplitl [Hch]; · iexact Hch
    isplitl [HD0]; · iexact HD0
    isplitl [Hfly]; · iexact Hfly
    isplitl [Hwo]; · iexact Hwo
    isplitl [Hnx]; · iexact Hnx
    isplitl [Hbh]; · iexact Hbh
    isplitl [Hxa]; · iexact Hxa
    iexact HO
  iintro ⟨Hch, Hnx, Hwo, Hw, Hbh, Hxa, HO⟩
  ihave Hw0 := (arrWin_join m 0 c) $$ Hw
  ihave Hti := (woPres_elim m 0 c) $$ [Hwo]
  · unfold woPres; iexact Hwo
  icases Hti with ⟨Hti, Hz0⟩
  ihave Hxa := (Entails.of_eq (dst0_eq c _)) $$ Hxa
  ihave Hin := (Entails.of_eq (src0_eq c (xin m ρ 0 c))) $$ Hin
  ihave Hfly := (next_fly m 0 (by decide) c) $$ Hnx
  -- layer 1
  ihave Hxa := (Entails.of_eq (src1_eq c (xin m ρ 1 c)).symm) $$ Hxa
  iapply (step_load c (L1 c).src rX (fun _ => rfl) (xin m ρ 1 c)) $$ Hxa
  iintro Hxa
  ihave Hnx := (next_now m 1 (by decide) c) $$ Hw2
  ihave Hwo := (woPres_intro m 1 c) $$ [Hti Hz1]
  · isplitl [Hti]; · iexact Hti
    iexact Hz1
  unfold woPres
  ihave Hxb := (Entails.of_eq (dst1_any c).symm) $$ Hxb
  iapply (step_layer m ρ k0_pay1 pay1_id (fits1 c) 1 rfl) $$ [Hch HD1 Hfly Hwo Hnx Hbh Hxb HO]
  · isplitr; · iexact HR
    isplitr; · iexact Hlev
    isplitl [Hch]; · iexact Hch
    isplitl [HD1]; · iexact HD1
    isplitl [Hfly]; · iexact Hfly
    isplitl [Hwo]; · iexact Hwo
    isplitl [Hnx]; · iexact Hnx
    isplitl [Hbh]; · iexact Hbh
    isplitl [Hxb]; · iexact Hxb
    iexact HO
  iintro ⟨Hch, Hnx, Hwo, Hw, Hbh, Hxb, HO⟩
  ihave Hw1 := (arrWin_join m 1 c) $$ Hw
  ihave Hti := (woPres_elim m 1 c) $$ [Hwo]
  · unfold woPres; iexact Hwo
  icases Hti with ⟨Hti, Hz1⟩
  ihave Hxb := (Entails.of_eq (dst1_eq c _)) $$ Hxb
  ihave Hxa := (Entails.of_eq (src1_eq c (xin m ρ 1 c))) $$ Hxa
  ihave Hfly := (next_fly m 1 (by decide) c) $$ Hnx
  -- layer 2
  ihave Hxb := (Entails.of_eq (src2_eq c (xin m ρ 2 c)).symm) $$ Hxb
  iapply (step_load c (L2 c).src rX (fun _ => rfl) (xin m ρ 2 c)) $$ Hxb
  iintro Hxb
  ihave Hnx := (next_none m c) $$ []
  · iempintro
  ihave Hwo := (woPres_intro m 2 c) $$ [Hti Hz2]
  · isplitl [Hti]; · iexact Hti
    iexact Hz2
  unfold woPres
  ihave Hout := (Entails.of_eq (dst2_any c).symm) $$ Hout
  iapply (step_layer m ρ id (fun _ => rfl) (fits2 c) 0 rfl) $$ [Hch HD2 Hfly Hwo Hnx Hbh Hout HO]
  · isplitr; · iexact HR
    isplitr; · iexact Hlev
    isplitl [Hch]; · iexact Hch
    isplitl [HD2]; · iexact HD2
    isplitl [Hfly]; · iexact Hfly
    isplitl [Hwo]; · iexact Hwo
    isplitl [Hnx]; · iexact Hnx
    isplitl [Hbh]; · iexact Hbh
    isplitl [Hout]; · iexact Hout
    iexact HO
  iintro ⟨Hch, Hnx, Hwo, Hw, Hbh, Hout, HO⟩
  ihave Hw2 := (arrWin_join m 2 c) $$ Hw
  ihave Hti := (woPres_elim m 2 c) $$ [Hwo]
  · unfold woPres; iexact Hwo
  icases Hti with ⟨Hti, Hz2⟩
  ihave Hout := (Entails.of_eq (dst2_eq c _)) $$ Hout
  ihave Hxb := (Entails.of_eq (src2_eq c (xin m ρ 2 c))) $$ Hxb
  -- the end
  ihave Hnx := (next_idle m c) $$ Hnx
  ihave Hnx := (Entails.of_eq (congrArg₂ (fun A B : sProp 𝕄 => iprop(A ∗ B)) (idleWin_eq c 0) (idleWin_eq c 1))) $$ Hnx
  icases Hnx with ⟨⟨Hb0, Hv0⟩, ⟨Hb1, Hv1⟩⟩
  unfold tiles
  icases Hti with ⟨Ho0, Ho1, Ho2, Ho3⟩
  ihave Ho0 := (Entails.of_eq (idleWout_eq c 0)) $$ Ho0
  ihave Ho1 := (Entails.of_eq (idleWout_eq c 1)) $$ Ho1
  ihave Ho2 := (Entails.of_eq (idleWout_eq c 2)) $$ Ho2
  ihave Ho3 := (Entails.of_eq (idleWout_eq c 3)) $$ Ho3
  icases Ho0 with ⟨Ho0, Hu0⟩
  icases Ho1 with ⟨Ho1, Hu1⟩
  icases Ho2 with ⟨Ho2, Hu2⟩
  icases Ho3 with ⟨Ho3, Hu3⟩
  icases Hch with ⟨Hc0, Hc1, Hc2⟩
  imod (close_chunk m ρ c 0) $$ [Hc0] with ⟨HZ0, HM0⟩
  · isplitr; · iexact HR
    iexact Hc0
  imod (close_chunk m ρ c 1) $$ [Hc1] with ⟨HZ1, HM1⟩
  · isplitr; · iexact HR
    iexact Hc1
  imod (close_chunk m ρ c 2) $$ [Hc2] with ⟨HZ2, HM2⟩
  · isplitr; · iexact HR
    iexact Hc2
  imod (close_cell m ρ (barCell c) 1 (fun r h => duties_bar_later m ρ c r h)) $$ [Hat] with HB
  · isplitr; · iapply (recs_bar m ρ c); iexact HR
    iexact Hat
  unfold chunkMem
  icases HM0 with ⟨Hr0, Hg0, Hs0⟩
  icases HM1 with ⟨Hr1, Hg1, Hs1⟩
  icases HM2 with ⟨Hr2, Hg2, Hs2⟩
  rw [wp_ret]
  imodintro
  iapply Hk
  isplitr [HO Hin Hout]
  · isplitl [HB HZ0 HZ1 HZ2 Hv0 Hv1 Hu0 Hu1 Hu2 Hu3]
    · isplitl [HB]; · iexact HB
      isplitl [HZ0 HZ1 HZ2]
      · isplitl [HZ0]; · iexact HZ0
        isplitl [HZ1]; · iexact HZ1
        iexact HZ2
      unfold tileSems
      isplitl [Hv0 Hv1]
      · isplitl [Hv0]; · iexact Hv0
        iexact Hv1
      isplitl [Hu0]; · iexact Hu0
      isplitl [Hu1]; · iexact Hu1
      isplitl [Hu2]; · iexact Hu2
      iexact Hu3
    isplitl [Hw0 Hw1 Hw2 Hz0 Hz1 Hz2]
    · isplitl [Hw0]; · iexact Hw0
      isplitl [Hw1]; · iexact Hw1
      isplitl [Hw2]; · iexact Hw2
      isplitl [Hz0]; · iexact Hz0
      isplitl [Hz1]; · iexact Hz1
      iexact Hz2
    isplitl [Hxa]; · iexists _; iexact Hxa
    isplitl [Hxb]; · iexists _; iexact Hxb
    isplitl [Hb0 Hb1]
    · iapply (winB_join m c)
      isplitl [Hb0]; · iexact Hb0
      iexact Hb1
    isplitl [Ho0 Ho1 Ho2 Ho3]
    · iapply (woutB_join m c)
      isplitl [Ho0]; · iexact Ho0
      isplitl [Ho1]; · iexact Ho1
      isplitl [Ho2]; · iexact Ho2
      iexact Ho3
    isplitl [Hs0 Hs1 Hs2]
    · iapply (sB_join m c)
      isplitl [Hs0]; · iexact Hs0
      isplitl [Hs1]; · iexact Hs1
      iexact Hs2
    isplitl [Hr0 Hr1 Hr2]
    · iapply (rB_join m c)
      isplitl [Hr0]; · iexact Hr0
      isplitl [Hr1]; · iexact Hr1
      iexact Hr2
    isplitl [Hg0 Hg1 Hg2]
    · iapply (gB_join m c)
      isplitl [Hg0]; · iexact Hg0
      isplitl [Hg1]; · iexact Hg1
      iexact Hg2
    unfold anyH; iexact Hbh
  isplitl [HO]; · iexact HO
  isplitl [Hin]; · iexact Hin
  iexact Hout

end Cert.KernelIdeal.Mlp

end
-- ==== Proof.Deal.lean ====
/-
# The launch: every device dealt its positions, tokens and credit
-/
module

public import proofs.«01_k».proof.Proof.Body

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The kernel's own semaphores -/

def osem : Fin 18 → SemLoc sig
  | 0 => .dma (winSem 0) | 1 => .dma (winSem 1)
  | 2 => .dma (woutSem 0) | 3 => .dma (woutSem 1) | 4 => .dma (woutSem 2) | 5 => .dma (woutSem 3)
  | 6 => .dma (rsS 0) | 7 => .dma (rsS 1) | 8 => .dma (rsS 2)
  | 9 => .dma (rsR 0) | 10 => .dma (rsR 1) | 11 => .dma (rsR 2)
  | 12 => .dma (agS 0) | 13 => .dma (agS 1) | 14 => .dma (agS 2)
  | 15 => .dma (agR 0) | 16 => .dma (agR 1) | _ => .dma (agR 2)

theorem ownSemFacts : Pipeline.OwnSemFacts cfg0.spec osem := by decide +kernel

/-- A device's copy semaphores at zero, chunk by chunk. -/
def chunkSems (c : Dev nD) (k : Fin 3) : sProp 𝕄 :=
  iprop(semVal (rsSC c k) 0 ∗ semVal (rsRC c k) 0 ∗ semVal (agSC c k) 0 ∗ semVal (agRC c k) 0)

theorem ownSems0_eq (c : Dev nD) : (Pipeline.ownSems0 (Ix := ℕ) (Name := ℕ) (U := UU) (Lvl := ℕ) (Val := Elt F) (τ := τ) osem c : sProp 𝕄)
    = iprop(semVal ((c : Thread nD τ), osem 0) 0 ∗ semVal ((c : Thread nD τ), osem 1) 0 ∗ semVal ((c : Thread nD τ), osem 2) 0 ∗ semVal ((c : Thread nD τ), osem 3) 0 ∗ semVal ((c : Thread nD τ), osem 4) 0 ∗ semVal ((c : Thread nD τ), osem 5) 0 ∗ semVal ((c : Thread nD τ), osem 6) 0 ∗ semVal ((c : Thread nD τ), osem 7) 0 ∗ semVal ((c : Thread nD τ), osem 8) 0 ∗ semVal ((c : Thread nD τ), osem 9) 0 ∗ semVal ((c : Thread nD τ), osem 10) 0 ∗ semVal ((c : Thread nD τ), osem 11) 0 ∗ semVal ((c : Thread nD τ), osem 12) 0 ∗ semVal ((c : Thread nD τ), osem 13) 0 ∗ semVal ((c : Thread nD τ), osem 14) 0 ∗ semVal ((c : Thread nD τ), osem 15) 0 ∗ semVal ((c : Thread nD τ), osem 16) 0 ∗ semVal ((c : Thread nD τ), osem 17) 0) := by
  rw [Pipeline.ownSems0_eq_of_list c osem [0, 1, 2, 3, 4, 5, 6, 7, 8, 9, 10, 11, 12, 13, 14, 15, 16, 17] (by decide) (by decide)]; rfl

theorem unscopedSems0_eq (c : Dev nD) : (unscopedSems0 c : sProp 𝕄) = semVal (barCell c) 0 := by
  unfold unscopedSems0; rw [bigSep_eq_bigSepL_of_eq [SemLoc.reg barSem] (by decide +kernel) (by decide)]; rfl

theorem ownSems0_elim (c : Dev nD) : (Pipeline.ownSems0 (Ix := ℕ) (Name := ℕ) (U := UU) (Lvl := ℕ) (Val := Elt F) (τ := τ) osem c : sProp 𝕄)
    ⊢ iprop(tileSems c ∗ (chunkSems c 0 ∗ chunkSems c 1 ∗ chunkSems c 2)) := by
  rw [ownSems0_eq]
  unfold tileSems chunkSems
  iintro ⟨H0, H1, H2, H3, H4, H5, H6, H7, H8, H9, H10, H11, H12, H13, H14, H15, H16, H17⟩
  isplitl [H0 H1 H2 H3 H4 H5]
  · isplitl [H0 H1]
    · isplitl [H0]; · iexact H0
      iexact H1
    isplitl [H2]; · iexact H2
    isplitl [H3]; · iexact H3
    isplitl [H4]; · iexact H4
    iexact H5
  isplitl [H6 H9 H12 H15]
  · isplitl [H6]; · iexact H6
    isplitl [H9]; · iexact H9
    isplitl [H12]; · iexact H12
    iexact H15
  isplitl [H7 H10 H13 H16]
  · isplitl [H7]; · iexact H7
    isplitl [H10]; · iexact H10
    isplitl [H13]; · iexact H13
    iexact H16
  isplitl [H8]; · iexact H8
  isplitl [H11]; · iexact H11
  isplitl [H14]; · iexact H14
  iexact H17

theorem ownSems0_intro (c : Dev nD) : iprop(tileSems c ∗ (chunkSems c 0 ∗ chunkSems c 1 ∗ chunkSems c 2))
    ⊢ (Pipeline.ownSems0 (Ix := ℕ) (Name := ℕ) (U := UU) (Lvl := ℕ) (Val := Elt F) (τ := τ) osem c : sProp 𝕄) := by
  rw [ownSems0_eq]
  unfold tileSems chunkSems
  iintro ⟨⟨⟨H0, H1⟩, H2, H3, H4, H5⟩, ⟨H6, H9, H12, H15⟩, ⟨H7, H10, H13, H16⟩, H8, H11, H14, H17⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-! ## One chain over the indexed cells -/

theorem bigSep_cix (Φ : CIx → sProp 𝕄) : bigSep Finset.univ Φ
    = iprop(Φ none ∗ Φ (some (0, 0)) ∗ Φ (some (1, 0)) ∗ Φ (some (2, 0)) ∗ Φ (some (3, 0))
      ∗ Φ (some (0, 1)) ∗ Φ (some (1, 1)) ∗ Φ (some (2, 1)) ∗ Φ (some (3, 1))
      ∗ Φ (some (0, 2)) ∗ Φ (some (1, 2)) ∗ Φ (some (2, 2)) ∗ Φ (some (3, 2))) :=
  bigSep_univ_eq_bigSepL [none, some (0, 0), some (1, 0), some (2, 0), some (3, 0), some (0, 1), some (1, 1), some (2, 1), some (3, 1),
    some (0, 2), some (1, 2), some (2, 2), some (3, 2)] (by decide) (by decide) Φ

theorem csem_injective : Function.Injective csem := by
  intro a b; revert a b; decide +kernel

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-! ## The duty tokens -/

/-- A duty of a device's cells: one of the barrier's three, or layer, chunk and kind of copy. -/
abbrev TIx : Type := Fin 3 ⊕ (Fin 3 × (Fin 3 × Fin 4))
def tokOf : Dev nD × TIx → GSem nD τ sig × ℕ × Fin 3
  | (c, .inl d) => (barCell c, 0, d)
  | (c, .inr (ℓ, k, a)) => (kcell (c, some (a, k)), ℓ.val, 0)

theorem tokOf_injective : Function.Injective tokOf := by
  rintro ⟨c, x⟩ ⟨c', x'⟩ h
  have h0 : c = c' := by
    have := congrArg (fun y : GSem nD τ sig × ℕ × Fin 3 => y.1.1.1) h
    rcases x with d | ⟨ℓ, k, a⟩ <;> rcases x' with d' | ⟨ℓ', k', a'⟩ <;> exact this
  subst h0
  rcases x with d | ⟨ℓ, k, a⟩ <;> rcases x' with d' | ⟨ℓ', k', a'⟩
  · have h3 : d = d' := congrArg (fun y : GSem nD τ sig × ℕ × Fin 3 => y.2.2) h
    rw [h3]
  · have h2 : csem none = csem (some (a', k')) := congrArg (fun y : GSem nD τ sig × ℕ × Fin 3 => y.1.2) h
    exact absurd (csem_injective h2) (by simp)
  · have h2 : csem (some (a, k)) = csem none := congrArg (fun y : GSem nD τ sig × ℕ × Fin 3 => y.1.2) h
    exact absurd (csem_injective h2) (by simp)
  · have h1 : csem (some (a, k)) = csem (some (a', k')) := congrArg (fun y : GSem nD τ sig × ℕ × Fin 3 => y.1.2) h
    have h2 : ℓ.val = ℓ'.val := congrArg (fun y : GSem nD τ sig × ℕ × Fin 3 => y.2.1) h
    have h3 := Option.some.inj (csem_injective h1)
    rw [Fin.ext h2, (Prod.mk.inj h3).1, (Prod.mk.inj h3).2]

def allToks : Finset (GSem nD τ sig × ℕ × Fin 3) := Finset.univ.map ⟨tokOf, tokOf_injective⟩

/-- Who pays a duty: the token of device `c` and index `x` goes to the device that this sends to it. -/
def turn : Dev nD × TIx → Dev nD × TIx
  | (c, .inl d) => (peer c d, .inl d.rev)
  | (c, .inr (ℓ, k, a)) => (if a = 1 ∨ a = 3 then peer c k else c, .inr (ℓ, k, a))
def turnBack : Dev nD × TIx → Dev nD × TIx
  | (c, .inl d) => (peer c d, .inl d.rev)
  | (c, .inr (ℓ, k, a)) => (if a = 1 ∨ a = 3 then peer c k.rev else c, .inr (ℓ, k, a))

def around : Dev nD × TIx ≃ Dev nD × TIx where
  toFun := turn
  invFun := turnBack
  left_inv := by
    rintro ⟨c, d | ⟨ℓ, k, a⟩⟩
    · simp only [turn, turnBack, peer_rev, Fin.rev_rev]
    · simp only [turn, turnBack]; split_ifs
      · rw [peer_rev]
      · rfl
  right_inv := by
    rintro ⟨c, d | ⟨ℓ, k, a⟩⟩
    · simp only [turn, turnBack, peer_rev, Fin.rev_rev]
    · simp only [turn, turnBack]; split_ifs
      · rw [rev_peer]
      · rfl

def tokAt (y : Dev nD × TIx) : sProp 𝕄 := dutyTok ER (tokOf y).1 (tokOf y).2.1 (tokOf y).2.2
/-- The tokens of device `c`'s own cells, and those of the duties it pays. -/
def toks (c : Dev nD) : sProp 𝕄 := bigSep Finset.univ fun x : TIx => tokAt (c, x)
def payToks (c : Dev nD) : sProp 𝕄 := bigSep Finset.univ fun x : TIx => tokAt (turn (c, x))

theorem toks_around : (bigSep Finset.univ fun c : Dev nD => (toks c : sProp 𝕄)) = bigSep Finset.univ fun c : Dev nD => payToks c := by
  unfold toks payToks
  rw [← bigSep_univ_prod (fun y : Dev nD × TIx => (tokAt y : sProp 𝕄)), bigSep_univ_equiv around (fun y => (tokAt y : sProp 𝕄)),
    ← bigSep_univ_prod (fun y : Dev nD × TIx => (tokAt (turn y) : sProp 𝕄))]
  rfl

/-- The four tokens of a chunk in a layer. -/
def chunkToks (ℓ : ℕ) (c : Dev nD) (k : Fin 3) : sProp 𝕄 :=
  iprop(dutyTok ER (rsSC c k) ℓ 0 ∗ dutyTok ER (rsRC (peer c k) k) ℓ 0 ∗ dutyTok ER (agSC c k) ℓ 0 ∗ dutyTok ER (agRC (peer c k) k) ℓ 0)

theorem payToks_copy (c : Dev nD) (ℓ k : Fin 3) :
    (bigSep Finset.univ fun a : Fin 4 => (tokAt (turn (c, .inr (ℓ, k, a))) : sProp 𝕄)) = chunkToks ℓ.val c k := by
  rw [bigSep_fin4]; rfl

theorem payToks_eq (c : Dev nD) : (payToks c : sProp 𝕄)
    = iprop((dutyTok ER (barCell (peer c 0)) 0 2 ∗ dutyTok ER (barCell (peer c 1)) 0 1 ∗ dutyTok ER (barCell (peer c 2)) 0 0)
      ∗ ((chunkToks 0 c 0 ∗ chunkToks 0 c 1 ∗ chunkToks 0 c 2) ∗ (chunkToks 1 c 0 ∗ chunkToks 1 c 1 ∗ chunkToks 1 c 2)
        ∗ (chunkToks 2 c 0 ∗ chunkToks 2 c 1 ∗ chunkToks 2 c 2))) := by
  unfold payToks
  rw [bigSep_univ_sum, bigSep_univ_prod, bigSep_fin3, bigSep_fin3]
  simp only [bigSep_univ_prod, bigSep_fin3, payToks_copy]
  rfl

/-! ## The launch element -/

def u₀ : UU :=
  (initOf (Pipeline.cells cfgs cellOf_inj) (Pipeline.launchToks cfgs cellOf_inj), (initOf allCells allToks, 1))

/-- What the launch element deals device `c`. -/
def G (c : Dev nD) : sProp 𝕄 :=
  iprop((bigSep Finset.univ fun k : CIx => roundState ER (Rd m ρ) (kcell (c, k)) 0)
    ∗ (bigSep Finset.univ fun k : CIx => iprop(atPos ER (kcell (c, k)) 0 ∅ 0 ∗ reached ER (kcell (c, k)) 0)) ∗ toks c)

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem fund_u₀ : (ownU u₀ : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  ihave H := (own_pair_emb (embR : Emb (UB × Counters) 𝕄) _ _) $$ HX
  icases H with ⟨HX, -⟩
  ihave HX := (show BI.own (((Emb.inl : Emb UB (UB × Counters)).trans embR) (initOf allCells allToks)) ⊢ (BI.own (ER (initOf allCells allToks)) : sProp 𝕄) from
    Entails.of_eq (by unfold ER; rfl)) $$ HX
  imod (fund m ρ) $$ HX with HG
  imodintro
  isplitl [HP]; · iexact HP
  iexact HG

/-! ## The cells' invariants, allocated -/

theorem sems_split (c : Dev nD) :
    iprop(Pipeline.ownSems0 (Ix := ℕ) (Name := ℕ) (U := UU) (Lvl := ℕ) (Val := Elt F) (τ := τ) osem c ∗ unscopedSems0 c)
      ⊢ (iprop(tileSems c ∗ bigSep Finset.univ fun k : CIx => semVal (kcell (c, k)) 0) : sProp 𝕄) := by
  rw [unscopedSems0_eq, bigSep_cix]
  iintro ⟨HO, HB⟩
  ihave H := (ownSems0_elim c) $$ HO
  unfold chunkSems
  icases H with ⟨HT, ⟨H0, H1, H2, H3⟩, ⟨H4, H5, H6, H7⟩, H8, H9, H10, H11⟩
  isplitl [HT]; · iexact HT
  isplitl [HB]; · iexact HB
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k : CIx => Inv m ρ (kcell (c, k)))
          ∗ (bigSep Finset.univ fun k : CIx => iprop(atPos ER (kcell (c, k)) 0 ∅ 0 ∗ reached ER (kcell (c, k)) 0)) ∗ toks c ∗ tileSems c) := by
  unfold G
  iintro ⟨Hos, Hus, Hst, Hat, Htok⟩
  ihave Hv := (sems_split (F := F) c) $$ [Hos Hus]
  · isplitl [Hos]; · iexact Hos
    iexact Hus
  icases Hv with ⟨HT, Hv⟩
  imod (show iprop((bigSep Finset.univ fun k : CIx => semVal (kcell (c, k)) 0) ∗ bigSep Finset.univ fun k : CIx => roundState ER (Rd m ρ) (kcell (c, k)) 0)
      ⊢ (|={Set.univ}=> bigSep Finset.univ fun k : CIx => Inv m ρ (kcell (c, k)) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Htok]; · iexact Htok
  iexact HT

/-- What every device may use: the invariants, and that every cell's first round is begun. -/
def begun : sProp 𝕄 := bigSep Finset.univ fun ck : Dev nD × CIx => reached ER (kcell ck) 0
instance begun_persistent : BI.Persistent (begun : sProp 𝕄) := by unfold begun; infer_instance
theorem begun_at (ck : Dev nD × CIx) : (begun : sProp 𝕄) ⊢ reached ER (kcell ck) 0 := by
  unfold begun; exact bigSep_elim (Finset.mem_univ ck)

/-- A device's share of the launch, before the levels and the credit. -/
def G' (c : Dev nD) : sProp 𝕄 :=
  iprop(recs m ρ ∗ begun ∗ (bigSep Finset.univ fun k : CIx => atPos ER (kcell (c, k)) 0 ∅ 0) ∗ payToks c ∗ tileSems c)

theorem with_persistent {I : Type} [DecidableEq I] {S : Finset I} {R : sProp 𝕄} [BI.Persistent R] (Φ : I → sProp 𝕄) :
    iprop(R ∗ bigSep S Φ) ⊢ bigSep S fun i => iprop(R ∗ Φ i) := by
  rw [bigSep_sep']
  exact sep_mono_left (BI.bigSep_of_persistent S R)

theorem regroup :
    (bigSep Finset.univ fun c : Dev nD => iprop((bigSep Finset.univ fun k : CIx => Inv m ρ (kcell (c, k)))
          ∗ (bigSep Finset.univ fun k : CIx => iprop(atPos ER (kcell (c, k)) 0 ∅ 0 ∗ reached ER (kcell (c, k)) 0)) ∗ toks c ∗ tileSems c) : sProp 𝕄)
      ⊢ bigSep Finset.univ (G' m ρ) := by
  have h1 : (bigSep Finset.univ fun c : Dev nD => bigSep Finset.univ fun k : CIx => (Inv m ρ (kcell (c, k)) : sProp 𝕄)) = recs m ρ := by
    unfold recs; rw [bigSep_univ_prod]
  have h2 : (bigSep Finset.univ fun c : Dev nD => bigSep Finset.univ fun k : CIx => (reached ER (kcell (c, k)) 0 : sProp 𝕄)) = begun := by
    unfold begun; rw [bigSep_univ_prod]
  rw [bigSep_sep', bigSep_sep', bigSep_sep', h1, toks_around,
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', h2]
  iintro ⟨#HI, ⟨Hat, #HR⟩, Htok, HT⟩
  have h3 : (bigSep Finset.univ (G' m ρ) : sProp 𝕄) = bigSep Finset.univ fun c : Dev nD => iprop((recs m ρ ∗ begun)
      ∗ ((bigSep Finset.univ fun k : CIx => atPos ER (kcell (c, k)) 0 ∅ 0) ∗ payToks c ∗ tileSems c)) :=
    bigSep_congr fun c _ => by
      unfold G'
      refine BI.Entails.antisymm (show _ ⊢ (_ : sProp 𝕄) from ?_) (show _ ⊢ (_ : sProp 𝕄) from ?_)
      · iintro ⟨H1, H2, H3⟩
        isplitl [H1 H2]
        · isplitl [H1]; · iexact H1
          iexact H2
        iexact H3
      · iintro ⟨⟨H1, H2⟩, H3⟩
        isplitl [H1]; · iexact H1
        isplitl [H2]; · iexact H2
        iexact H3
  rw [h3]
  iapply (with_persistent (R := iprop(recs m ρ ∗ begun)) _)
  isplitr
  · isplitr; · iexact HI
    iexact HR
  rw [bigSep_sep', bigSep_sep']
  isplitl [Hat]; · iexact Hat
  isplitl [Htok]; · iexact Htok
  iexact HT

theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- The credit a device waits with in layer `ℓ` for chunk `k`. -/
def chunkCred (ℓ : ℕ) (c : Dev nD) (k : Fin 3) : sProp 𝕄 :=
  iprop(cred (tallyAt (rsRC c k) (2 + 2 * ℓ) N) ∗ cred (tallyAt (agRC c k) (3 + 2 * ℓ) N))

theorem cred_owR (c : Dev nD) (ℓ : ℕ) (k : Fin 3) : (Pipeline.launchCred (fun d => owR d ℓ k) c : sProp 𝕄) ⊢ cred (tallyAt (rsRC c k) (2 + 2 * ℓ) N) :=
  Pipeline.launchCred_tallyAt (.dma (rsR k)) (fun d => peer d k) (fun d => peer d k.rev) (fun d => rev_peer d k) (fun d => peer_rev d k) _ _ c
theorem cred_owG (c : Dev nD) (ℓ : ℕ) (k : Fin 3) : (Pipeline.launchCred (fun d => owG d ℓ k) c : sProp 𝕄) ⊢ cred (tallyAt (agRC c k) (3 + 2 * ℓ) N) :=
  Pipeline.launchCred_tallyAt (.dma (agR k)) (fun d => peer d k) (fun d => peer d k.rev) (fun d => rev_peer d k) (fun d => peer_rev d k) _ _ c
theorem cred_owB (c : Dev nD) (k : Fin 3) : (Pipeline.launchCred (fun d => owB d k) c : sProp 𝕄) ⊢ cred (tallyAt (barCell c) 1 1) :=
  Pipeline.launchCred_tallyAt (.reg barSem) (fun d => peer d k) (fun d => peer d k.rev) (fun d => rev_peer d k) (fun d => peer_rev d k) _ _ c

theorem cred_owed (n : ℕ) (c : Dev nD) : (Pipeline.launchCred (fun d => owed (n + 1) d) c : sProp 𝕄)
    ⊢ iprop(Pipeline.launchCred (fun d => owed n d) c ∗ (chunkCred (2 - n) c 0 ∗ chunkCred (2 - n) c 1 ∗ chunkCred (2 - n) c 2)) := by
  rw [show (fun d => owed (n + 1) d) = fun d => owed n d + owG d (2 - n) 2 + owG d (2 - n) 1 + owG d (2 - n) 0 + owR d (2 - n) 2 + owR d (2 - n) 1 + owR d (2 - n) 0 from rfl,
    Pipeline.launchCred_add (fun d => owed n d + owG d (2 - n) 2 + owG d (2 - n) 1 + owG d (2 - n) 0 + owR d (2 - n) 2 + owR d (2 - n) 1) (fun d => owR d (2 - n) 0),
    Pipeline.launchCred_add (fun d => owed n d + owG d (2 - n) 2 + owG d (2 - n) 1 + owG d (2 - n) 0 + owR d (2 - n) 2) (fun d => owR d (2 - n) 1),
    Pipeline.launchCred_add (fun d => owed n d + owG d (2 - n) 2 + owG d (2 - n) 1 + owG d (2 - n) 0) (fun d => owR d (2 - n) 2),
    Pipeline.launchCred_add (fun d => owed n d + owG d (2 - n) 2 + owG d (2 - n) 1) (fun d => owG d (2 - n) 0),
    Pipeline.launchCred_add (fun d => owed n d + owG d (2 - n) 2) (fun d => owG d (2 - n) 1),
    Pipeline.launchCred_add (fun d => owed n d) (fun d => owG d (2 - n) 2)]
  unfold chunkCred
  iintro ⟨⟨⟨⟨⟨⟨H, G2⟩, G1⟩, G0⟩, R2⟩, R1⟩, R0⟩
  isplitl [H]; · iexact H
  isplitl [R0 G0]
  · isplitl [R0]; · iapply (cred_owR c (2 - n) 0); iexact R0
    iapply (cred_owG c (2 - n) 0); iexact G0
  isplitl [R1 G1]
  · isplitl [R1]; · iapply (cred_owR c (2 - n) 1); iexact R1
    iapply (cred_owG c (2 - n) 1); iexact G1
  isplitl [R2]; · iapply (cred_owR c (2 - n) 2); iexact R2
  iapply (cred_owG c (2 - n) 2); iexact G2

theorem bar_three (c : Dev nD) : iprop(cred (tallyAt (barCell c) 1 1) ∗ cred (tallyAt (barCell c) 1 1) ∗ cred (tallyAt (barCell c) 1 1))
    ⊢ (cred (tallyAt (barCell c) 1 3) : sProp 𝕄) := by
  rw [show (tallyAt (barCell c) 1 3 : CellTallies nD τ sig ℕ) = tallyAt (barCell c) 1 1 + (tallyAt (barCell c) 1 1 + tallyAt (barCell c) 1 1) from by
    rw [tallyAt_add, tallyAt_add]]
  exact (sep_mono_right (cred_add _ _).2).trans (cred_add _ _).2

theorem creds (c : Dev nD) : (Pipeline.launchCred O₀ c : sProp 𝕄)
    ⊢ iprop(cred (tallyAt (barCell c) 1 3) ∗ (chunkCred 0 c 0 ∗ chunkCred 0 c 1 ∗ chunkCred 0 c 2)
      ∗ (chunkCred 1 c 0 ∗ chunkCred 1 c 1 ∗ chunkCred 1 c 2) ∗ (chunkCred 2 c 0 ∗ chunkCred 2 c 1 ∗ chunkCred 2 c 2)) := by
  rw [show (O₀ : Dev nD → _) = fun d => owed 3 d + owB d 2 + owB d 1 + owB d 0 from rfl,
    Pipeline.launchCred_add (fun d => owed 3 d + owB d 2 + owB d 1) (fun d => owB d 0),
    Pipeline.launchCred_add (fun d => owed 3 d + owB d 2) (fun d => owB d 1),
    Pipeline.launchCred_add (fun d => owed 3 d) (fun d => owB d 2)]
  iintro ⟨⟨⟨H, B2⟩, B1⟩, B0⟩
  ihave H := (cred_owed 2 c) $$ H
  icases H with ⟨H, C0⟩
  ihave H := (cred_owed 1 c) $$ H
  icases H with ⟨H, C1⟩
  ihave H := (cred_owed 0 c) $$ H
  icases H with ⟨-, C2⟩
  isplitl [B0 B1 B2]
  · iapply (bar_three c)
    isplitl [B0]; · iapply (cred_owB c 0); iexact B0
    isplitl [B1]; · iapply (cred_owB c 1); iexact B1
    iapply (cred_owB c 2); iexact B2
  isplitl [C0]; · iexact C0
  isplitl [C1]; · iexact C1
  iexact C2

/-! ## What a device starts with -/

theorem duty_intro (ℓ : ℕ) (c : Dev nD) (k : Fin 3) : iprop(chunkToks ℓ c k ∗ chunkCred ℓ c k) ⊢ (chunkDuty ℓ c k : sProp 𝕄) := by
  unfold chunkToks chunkCred chunkDuty
  iintro ⟨⟨H1, H2, H3, H4⟩, H5, H6⟩
  isplitl [H1]; · iexact H1
  isplitl [H2]; · iexact H2
  isplitl [H3]; · iexact H3
  isplitl [H4]; · iexact H4
  isplitl [H5]; · iexact H5
  iexact H6

theorem duties3_intro (ℓ : ℕ) (c : Dev nD) :
    iprop((chunkToks ℓ c 0 ∗ chunkToks ℓ c 1 ∗ chunkToks ℓ c 2) ∗ (chunkCred ℓ c 0 ∗ chunkCred ℓ c 1 ∗ chunkCred ℓ c 2)) ⊢ (duties3 ℓ c : sProp 𝕄) := by
  unfold duties3
  iintro ⟨⟨H0, H1, H2⟩, C0, C1, C2⟩
  isplitl [H0 C0]
  · iapply (duty_intro ℓ c 0)
    isplitl [H0]; · iexact H0
    iexact C0
  isplitl [H1 C1]
  · iapply (duty_intro ℓ c 1)
    isplitl [H1]; · iexact H1
    iexact C1
  iapply (duty_intro ℓ c 2)
  isplitl [H2]; · iexact H2
  iexact C2

theorem pos_intro (c : Dev nD) (k : Fin 3) :
    iprop(begun ∗ atPos ER (rsSC c k) 0 ∅ 0 ∗ atPos ER (rsRC c k) 0 ∅ 0 ∗ atPos ER (agSC c k) 0 ∅ 0 ∗ atPos ER (agRC c k) 0 ∅ 0)
      ⊢ (chunkPos c k : sProp 𝕄) := by
  unfold chunkPos
  iintro ⟨#HB, H1, H2, H3, H4⟩
  isplitl [H1]
  · isplitl [H1]; · iexact H1
    iapply (begun_at (c, some (0, k))); iexact HB
  isplitl [H2]
  · isplitl [H2]; · iexact H2
    iapply (begun_at (c, some (1, k))); iexact HB
  isplitl [H3]
  · isplitl [H3]; · iexact H3
    iapply (begun_at (c, some (2, k))); iexact HB
  isplitl [H4]; · iexact H4
  iapply (begun_at (c, some (3, k))); iexact HB

theorem ghost_intro (c : Dev nD) : iprop(levAts L lv ∗ Pipeline.launchCred O₀ c ∗ G' m ρ c) ⊢ ghost m ρ c := by
  unfold G' ghost barDuty
  rw [bigSep_cix, payToks_eq]
  iintro ⟨Hlev, Hcr, HR, #HB, ⟨HaB, A0, A1, A2, A3, A4, A5, A6, A7, A8, A9, A10, A11⟩, ⟨⟨T0, T1, T2⟩, D0, D1, D2⟩, HT⟩
  ihave Hcr := (creds c) $$ Hcr
  icases Hcr with ⟨HcB, C0, C1, C2⟩
  isplitl [HR]; · iexact HR
  isplitl [Hlev]; · iexact Hlev
  isplitl [T0 T1 T2]
  · isplitl [T0]
    · isplitl [T0]; · iexact T0
      iapply (begun_at (peer c 0, none)); iexact HB
    isplitl [T1]
    · isplitl [T1]; · iexact T1
      iapply (begun_at (peer c 1, none)); iexact HB
    isplitl [T2]; · iexact T2
    iapply (begun_at (peer c 2, none)); iexact HB
  isplitl [HaB HcB]
  · isplitl [HaB]; · iexact HaB
    iexact HcB
  isplitl [A0 A1 A2 A3 A4 A5 A6 A7 A8 A9 A10 A11]
  · isplitl [A0 A1 A2 A3]
    · iapply (pos_intro c 0)
      isplitr; · iexact HB
      isplitl [A0]; · iexact A0
      isplitl [A1]; · iexact A1
      isplitl [A2]; · iexact A2
      iexact A3
    isplitl [A4 A5 A6 A7]
    · iapply (pos_intro c 1)
      isplitr; · iexact HB
      isplitl [A4]; · iexact A4
      isplitl [A5]; · iexact A5
      isplitl [A6]; · iexact A6
      iexact A7
    iapply (pos_intro c 2)
    isplitr; · iexact HB
    isplitl [A8]; · iexact A8
    isplitl [A9]; · iexact A9
    isplitl [A10]; · iexact A10
    iexact A11
  isplitl [C0 C1 C2 D0 D1 D2]
  · isplitl [C0 D0]
    · iapply (duties3_intro 0 c)
      isplitl [D0]; · iexact D0
      iexact C0
    isplitl [C1 D1]
    · iapply (duties3_intro 1 c)
      isplitl [D1]; · iexact D1
      iexact C1
    iapply (duties3_intro 2 c)
    isplitl [D2]; · iexact D2
    iexact C2
  iexact HT

end Cert.KernelIdeal.Mlp

end
-- ==== Proof.Launch.lean ====
/-
# The run of the four devices

The pipeline's proof data around the body, the launch, and what every final state holds.
-/
module

public import proofs.«01_k».proof.Proof.Deal
public import Idealize.ShloMosaic.Lib.Pipeline.CollectiveSegs
public import Idealize.ShloMosaic.Lib.Pipeline.ValueKit.Geometry
public import Idealize.ShloMosaic.Lib.Quiescent

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The pipeline's proof data -/

/-- What a device holds beside its staging buffers, before the body and after it. -/
def Φ₀ (c : Dev nD) : sProp 𝕄 := iprop(ghost m ρ c ∗ arrays m c ∗ scratch c)
def Φ₁ (c : Dev nD) : sProp 𝕄 := iprop(zeros c ∗ arrays m c ∗ scratch c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => xin m ρ 3 c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

theorem owns_whole_ex (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt 0 t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt 0 t0_0.succ ∗ stg c cc0_stg0_0 (xstg m ρ c) ∗ stg c cc0_stg1_0 (xin m ρ 3 c))

theorem staged (c : Dev nD) (d) : (dats m ρ 0 c).before (0 : Fin 2) t0_0 d = xin m ρ 0 c := by
  unfold Dat.before; rw [if_pos (fetch0_0 t0_0)]; rfl

theorem body_run (c : Dev nD) : bodyPre m ρ c ⊢ WP c body (fun _ => bodyPost m ρ c) := by
  unfold bodyPre
  iintro ⟨HP, Ho, ⟨%d0, %g0, %hg0, Hx⟩, ⟨%d1, %g1, %hg1, Hout⟩⟩
  have hx : g0 = xin m ρ 0 c := by rw [hg0]; exact staged m ρ c d0
  subst hx
  unfold Dat.owesAt Pipeline.owesWithin
  icases Ho with ⟨%W, %hW, HO⟩
  rw [show (dats m ρ 0 c).owed t0_0.castSucc = O₀ c from rfl]
  iapply (sound_body m ρ c fun _ => bodyPost m ρ c)
  isplitl [HP]; · unfold Φ₀; iexact HP
  isplitl [HO]; · unfold owing; iexists W; iexact HO
  isplitl [Hx]; · iexact Hx
  isplitl [Hout]; · iexists g1; iexact Hout
  unfold bodyPost Φ₁ owing Dat.owesAt Pipeline.owesWithin
  rw [show (dats m ρ 0 c).owed t0_0.succ = 0 from rfl]
  iintro ⟨HP, ⟨%W', HO⟩, Hx, Hout⟩
  isplitl [HP]; · iexact HP
  isplitl [HO]
  · iexists W'
    isplitr; · ipureintro; exact fun _ _ => Or.inl trivial
    iexact HO
  isplitl [Hx]
  · iexists _
    isplitr [Hx]; swap; · iexact Hx
    ipureintro; rfl
  iexists _
  isplitr [Hout]; swap; · iexact Hout
  ipureintro; rfl

set_option maxRecDepth 40000 in
/-- The pipeline's obligation for the body, on device `c`. -/
theorem body_obligation (c : Dev nD) : BodyObligation (dats (F := F) m ρ 0 c) (defs₀ (F := F)) 𝒱₀ 0 Set.univ := fun t => by
  rw [fin_N0 t]
  rw [bigSep_W0, bigSep_W0]
  simp only [owns_whole_ex]
  show bodyPre m ρ c ⊢ WP c (bodyAt0 t0_0) (fun _ => bodyPost m ρ c)
  rw [body_eq]
  exact body_run m ρ c

/-! ## The launch theorem's side conditions -/

theorem share_eq (c : Dev nD) (w : Fin cfg0.W) : (dats m ρ 0 c).share w = fullShare := by unfold Dat.share; split <;> rfl

theorem arrays_intro (c : Dev nD) :
    (Pipeline.unscopedRestP Pipeline.Prefetch.none cfg0.spec c (fun b => m ((c : Thread nD τ).loc b)) : sProp 𝕄) ⊢ arrays m c := by
  rw [Pipeline.unscopedRestP_none, unscopedRest0_eq]
  exact Entails.refl _

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop((ghost m ρ c ∗ arrays m c) ∗ emp) := by
  iintro ⟨Ha, Hlev, Hcr, -, HG⟩
  imodintro
  isplitl
  · isplitr [Ha]
    · iapply (ghost_intro m ρ c)
      isplitl [Hlev]; · iexact Hlev
      isplitl [Hcr]; · iexact Hcr
      iexact HG
    iapply (arrays_intro m c); iexact Ha
  · iempintro

theorem phi0_intro (c : Dev nD) :
    iprop((ghost m ρ c ∗ arrays m c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨⟨Hg, Ha⟩, -, Hs⟩
  isplitl [Hg]; · iexact Hg
  isplitl [Ha]; · iexact Ha
  iexact Hs

theorem phi1_exit (c : Dev nD) :
    (dats m ρ 0 c).Φ (Fin.last cfg0.N) ⊢ iprop((unscopedSems0 c ∗ arrays m c) ∗ Pipeline.ownSems0 osem c ∗ Pipeline.scopedRest cfg0.spec c) := by
  rw [show (dats m ρ 0 c).Φ (Fin.last cfg0.N) = Φ₁ m c from rfl, scopedRest0_eq, unscopedSems0_eq]
  unfold Φ₁ zeros scratch
  iintro ⟨⟨HB, HC, HT⟩, Ha, Hs⟩
  isplitl [HB Ha]
  · isplitl [HB]; · iexact HB
    iexact Ha
  isplitr [Hs]
  · iapply (ownSems0_intro c)
    isplitl [HT]; · iexact HT
    unfold chunkSems
    unfold chunkZero
    iexact HC
  iexact Hs

theorem waits (c : Dev nD) : (levAts L lv : sProp 𝕄) ⊢ Pipeline.cellsWaits cfgs (dats m ρ) 0 0 c :=
  Pipeline.cellsWaits_intro cfgs (dats m ρ) 0 0 c fun w s t =>
    mayWait c _ (by decide) (by
      rcases t with ⟨_ | _, ht⟩
      · exact above_O₀ c
      · exact above_zero 0)

/-! ## The run -/

def finalA (c : Dev nD) (w : Fin cfg0.W) : Buf (Elt F) ((cfg0.win w).arr.view.loc (c : Thread nD τ)) := (dats m ρ 0 c).arrAt w cfg0.N

/-- The weight arrays of device `c` in a memory are the launch's. -/
def Kept (c : Dev nD) (s : MemSt nD τ sig (Elt F)) : Prop :=
  s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)

theorem read_one (c : Dev nD) (b : Ref sig .tc) (s' : Phys nD τ sig (Elt F)) :
    iprop((((c : Thread nD τ).loc b) ↦{fullShare} m ((c : Thread nD τ).loc b)) ∗ SI s')
      ⊢ (iprop(⌜s'.mem.mem ((c : Thread nD τ).loc b) = m ((c : Thread nD τ).loc b)⌝ ∗ SI s') : sProp 𝕄) := by
  iintro ⟨H, HSI⟩
  icombine HSI H gives %h
  isplitr; · ipureintro; exact Buf.eq_of_forall_mem_univ h
  iexact HSI

theorem arrays_read (c : Dev nD) (s' : Phys nD τ sig (Elt F)) :
    iprop(arrays m c ∗ SI s') ⊢ (iprop(⌜Kept m c s'.mem⌝ ∗ SI s') : sProp 𝕄) := by
  rw [show (arrays m c : sProp 𝕄) = iprop((((c : Thread nD τ).loc main_arg1) ↦{fullShare} m ((c : Thread nD τ).loc main_arg1)) ∗ (((c : Thread nD τ).loc main_arg2) ↦{fullShare} m ((c : Thread nD τ).loc main_arg2)) ∗ (((c : Thread nD τ).loc main_arg3) ↦{fullShare} m ((c : Thread nD τ).loc main_arg3)) ∗ (((c : Thread nD τ).loc main_arg4) ↦{fullShare} m ((c : Thread nD τ).loc main_arg4)) ∗ (((c : Thread nD τ).loc main_arg5) ↦{fullShare} m ((c : Thread nD τ).loc main_arg5)) ∗ (((c : Thread nD τ).loc main_arg6) ↦{fullShare} m ((c : Thread nD τ).loc main_arg6))) from rfl]
  iintro ⟨⟨H1, H2, H3, H4, H5, H6⟩, HSI⟩
  ihave H := (read_one m c main_arg1 s') $$ [H1 HSI]
  · isplitl [H1]; · iexact H1
    iexact HSI
  icases H with ⟨%h1, HSI⟩
  ihave H := (read_one m c main_arg2 s') $$ [H2 HSI]
  · isplitl [H2]; · iexact H2
    iexact HSI
  icases H with ⟨%h2, HSI⟩
  ihave H := (read_one m c main_arg3 s') $$ [H3 HSI]
  · isplitl [H3]; · iexact H3
    iexact HSI
  icases H with ⟨%h3, HSI⟩
  ihave H := (read_one m c main_arg4 s') $$ [H4 HSI]
  · isplitl [H4]; · iexact H4
    iexact HSI
  icases H with ⟨%h4, HSI⟩
  ihave H := (read_one m c main_arg5 s') $$ [H5 HSI]
  · isplitl [H5]; · iexact H5
    iexact HSI
  icases H with ⟨%h5, HSI⟩
  ihave H := (read_one m c main_arg6 s') $$ [H6 HSI]
  · isplitl [H6]; · iexact H6
    iexact HSI
  icases H with ⟨%h6, HSI⟩
  isplitr; · ipureintro; exact ⟨h1, h2, h3, h4, h5, h6⟩
  iexact HSI

/-- What every final state holds: each window's array as the pipeline left it, the weights as they were. -/
def QC : PUnit × MemSt nD τ sig (Elt F) → Prop := fun r =>
  ∀ c : Dev nD, (∀ w : Fin cfg0.W, r.2.mem ((cfg0.win w).arr.view.loc (c : Thread nD τ)) = finalA m ρ c w) ∧ Kept m c r.2

set_option maxRecDepth 8000 in
/-- For any float values, from any memory with zero counters: every weakly fair execution terminates, and every final
    state has the arrays as `QC` says and every semaphore counter at zero. -/
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := fund_u₀ m ρ)
    (hglob := glob m ρ)
    (hA := fun _ _ => rfl) (hpf := fun _ k => k.elim0)
    (X := fun c => iprop(ghost m ρ c ∗ arrays m c)) (Y := fun c => iprop(unscopedSems0 c ∗ arrays m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ Kept m c s)
    (hY := fun c s' => by
      iintro ⟨⟨Hu, Ha⟩, -, HSI⟩
      ihave H := (arrays_read m c s') $$ [Ha HSI]
      · isplitl [Ha]; · iexact Ha
        iexact HSI
      icases H with ⟨%hk, HSI⟩
      imod (Pipeline.unscopedSems0_read (X := unscopedSems0 c) (c := c) fupd_intro s') $$ [Hu HSI] with ⟨%hs, HSI⟩
      · isplitl [Hu]; · iexact Hu
        iexact HSI
      imodintro
      isplitr; · ipureintro; exact ⟨hs, hk⟩
      iexact HSI)
    (hQ := fun _ h hs => ⟨fun c => ⟨fun w => (h c).1 w, (h c).2.2.2⟩, sem_eq_zero hs fun c => (h c).2.2.1⟩)

theorem final_in (c : Dev nD) : finalA m ρ c (0 : Fin 2) = m ((c : Thread nD τ).loc main_arg0) :=
  (dats (F := F) m ρ 0 c).arrAt_in (0 : Fin 2) rfl _

theorem final_out (c : Dev nD) : finalA m ρ c (1 : Fin 2) = xin m ρ 3 c :=
  (dats (F := F) m ρ 0 c).arrAt_eq_of_after_last (1 : Fin 2) t0_0 (by decide +kernel) (xin m ρ 3 c) fun j => rfl

/-- Every final state: the result, the arguments as they were, and every counter at zero. -/
theorem run_main : θ_run defs (onTc (τ := τ) (main (F := F))) (s₀ m ρ) (fun r =>
    (∀ c : Dev nD, r.2.mem ((c : Thread nD τ).loc main_v1) = xin m ρ 3 c
      ∧ r.2.mem ((c : Thread nD τ).loc main_arg0) = m ((c : Thread nD τ).loc main_arg0) ∧ Kept m c r.2) ∧ r.2.sem = fun _ => 0) :=
  (θ_run defs _ _).mono (fun _ h => ⟨fun c => ⟨((h.1 c).1 (1 : Fin 2)).trans (final_out m ρ c),
    ((h.1 c).1 (0 : Fin 2)).trans (final_in m ρ c), (h.1 c).2⟩, h.2⟩) (run_arrays m ρ)

end Cert.KernelIdeal.Mlp

end
-- ==== Proof.Values.lean ====
/-
# What a layer computes, over the extended reals

The payloads of the kernel read at an index, and a layer's output on device `c` as block `c` of the layer's output on
whole arrays.
-/
module

public import proofs.«01_k».proof.Proof.Protocol
public import Idealize.ShloMosaic.Lib.MatmulPlain
public import Idealize.ShloMosaic.Lib.ValueIdx
public import Idealize.ShloMosaic.Lib.Layout
public import Idealize.ShloMosaic.Lib.Pointwise.Reshape

@[expose] public section

noncomputable section

namespace Cert.KernelIdeal.Mlp

open Cert.KernelIdeal Cert.KernelIdeal.Gen

open Idealize.ShloMosaic hiding ix2 eq_ix2
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ)

/-! ## Sums over four blocks -/

theorem sum_blocks {M : Type} [AddCommMonoid M] {N n : ℕ} (hN : N = 4 * n) (f : Fin N → M) (g : Fin 4 → Fin n → Fin N)
    (hg : ∀ d e, (g d e).val = d.val * n + e.val) : ∑ i, f i = ∑ d, ∑ e, f (g d e) := by
  subst hN
  rw [← Fintype.sum_prod_type' (f := fun d e => f (g d e))]
  refine (Fintype.sum_equiv (finProdFinEquiv (m := 4) (n := n)) _ _ ?_).symm
  rintro ⟨d, e⟩
  refine congrArg f (Fin.ext ?_)
  rw [hg]
  show d.val * n + e.val = e.val + n * d.val
  rw [Nat.mul_comm, Nat.add_comm]

/-- The position of place `e` of block `d`, among 4096 and among 8192. -/
def hpos (d : Fin 4) (e : Fin 1024) : Fin 4096 := ⟨d.val * 1024 + e.val, by omega⟩
def xpos (d : Fin 4) (e : Fin 2048) : Fin 8192 := ⟨d.val * 2048 + e.val, by omega⟩

/-- The own term and the three others, in the order in which they arrive, are all four. -/
theorem ring_sum {M : Type} [AddCommMonoid M] (f : Dev nD → M) (c : Dev nD) :
    f c + (f (peer c 2) + f (peer c 1) + f (peer c 0)) = ∑ d, f d := by
  rw [show (∑ d, f d) = f 0 + f 1 + f 2 + f 3 from Fin.sum_univ_four f]
  match c with
  | 0 => show f 0 + (f 3 + f 2 + f 1) = _; abel
  | 1 => show f 1 + (f 0 + f 3 + f 2) = _; abel
  | 2 => show f 2 + (f 1 + f 0 + f 3) = _; abel
  | 3 => show f 3 + (f 2 + f 1 + f 0) = _; abel

/-! ## The payloads at an index -/

theorem cast_upW (v : S2048x1024.Idx → Elt Ideal .f32) : shapeCast S2048x1024 (upW v) shapeCasts_S1x2048x1024_S2048x1024 = v :=
  funext fun j => congrArg v (Equiv.symm_apply_apply _ j)
theorem cast_upO (v : S1024x2048.Idx → Elt Ideal .f32) : shapeCast S1024x2048 (upO v) shapeCasts_S1x1024x2048_S1024x2048 = v :=
  funext fun j => congrArg v (Equiv.symm_apply_apply _ j)
theorem cast_upC (v : S64x1024.Idx → Elt Ideal .bf16) : shapeCast S64x1024 (upC v) shapeCasts_S1x64x1024_S64x1024 = v :=
  funext fun j => congrArg v (Equiv.symm_apply_apply _ j)

theorem prodW (x : FVec Ideal S64x2048 .f32) (w : FVec Ideal S2048x1024 .f32) (r : Fin 64) (n : Fin 1024) :
    matmul dot_S64x2048_S2048x1024_S64x1024_1_0_0_1_n_n none x w (constant S64x1024 .f32 0x00000000#32) (ix2 r n)
      = ∑ k : Fin 2048, x (ix2 r k) * w (ix2 k n) := by
  refine (Ideal.matmul_plain_apply (M := 64) (K := 2048) (N := 1024) none x w _ r n).trans ?_
  rw [constant_apply, Ideal.ofBits_zero_f32, zero_add]

theorem prodO {φ : FTy} (x : FVec Ideal S64x1024 φ) (w : FVec Ideal S1024x2048 .f32) (r : Fin 64) (q : Fin 2048) :
    matmul dot_S64x1024_S1024x2048_S64x2048_1_0_0_1_n_n none x w (constant S64x2048 .f32 0x00000000#32) (ix2 r q)
      = ∑ e : Fin 1024, x (ix2 r e) * w (ix2 e q) := by
  refine (Ideal.matmul_plain_apply (M := 64) (K := 1024) (N := 2048) none x w _ r q).trans ?_
  rw [constant_apply, Ideal.ofBits_zero_f32, zero_add]

theorem pay5_at (x : FVec Ideal S64x2048 .f32) (w : FVec Ideal S2048x1024 .f32) (r : Fin 64) (n : Fin 1024) :
    k0_pay5 x (upW w) (ix2 r n) = ∑ k : Fin 2048, x (ix2 r k) * w (ix2 k n) := by
  unfold k0_pay5
  rw [cast_upW]
  exact prodW x w r n

theorem pay2_at (x : FVec Ideal S64x2048 .f32) (w : FVec Ideal S2048x1024 .f32) (r : Fin 64) (n : Fin 1024) :
    shapeCast S64x1024 (k0_pay2 x (upW w)) shapeCasts_S1x64x1024_S64x1024 (ix2 r n) = ∑ k : Fin 2048, x (ix2 r k) * w (ix2 k n) := by
  unfold k0_pay2
  rw [cast_upW, shapeCast_comp, shapeCast_id]
  exact prodW x w r n

theorem pay6_at (p : FVec Ideal S64x1024 .f32) (a b d : FVec Ideal S1x64x1024 .bf16) (i : S64x1024.Idx) :
    k0_pay6 p a b d i = max (p i + (shapeCast S64x1024 a shapeCasts_S1x64x1024_S64x1024 i + shapeCast S64x1024 b shapeCasts_S1x64x1024_S64x1024 i
      + shapeCast S64x1024 d shapeCasts_S1x64x1024_S64x1024 i)) (0 : EReal) := by
  unfold k0_pay6
  show max _ (Ideal.ofBits .f32 0x00000000#32) = max _ _
  rw [Ideal.ofBits_zero_f32]
  rfl

theorem pay7_eq (p : FVec Ideal S64x1024 .f32) (a b d : FVec Ideal S1x64x1024 .bf16) (i : S64x1024.Idx) :
    k0_pay7 p a b d i = k0_pay6 p a b d i := by
  unfold k0_pay7
  rw [shapeCast_id]
  rfl

theorem pay8_at (h : FVec Ideal S64x1024 .f32) (w : FVec Ideal S1024x2048 .f32) (r : Fin 64) (q : Fin 2048) :
    k0_pay8 h (upO w) (ix2 r q) = ∑ e : Fin 1024, h (ix2 r e) * w (ix2 e q) := by
  unfold k0_pay8
  rw [cast_upO]
  exact prodO h w r q

theorem pay18_at (acc : FVec Ideal S64x2048 .f32) (g : FVec Ideal S64x1024 .bf16) (w : FVec Ideal S1024x2048 .f32) (r : Fin 64) (q : Fin 2048) :
    k0_pay18 acc (upC g) (upO w) (ix2 r q) = acc (ix2 r q) + ∑ e : Fin 1024, g (ix2 r e) * w (ix2 e q) := by
  unfold k0_pay18
  rw [cast_upO, cast_upC]
  exact congrArg (acc (ix2 r q) + ·) (prodO (extf .f32 g bitsLt_bf16_f32) w r q)

/-! ## The weight blocks at an index -/

theorem offW_eq : ∀ (c : Dev nD) (j : Fin 4), offW c j = ![0, (shift c (j.val + 1)).val * 1024] := by decide +kernel

/-- Whose block of the hidden layer tile `j` of the second weight matrix meets. -/
def rowDev (c : Dev nD) : Fin 4 → Dev nD
  | 0 => c
  | 1 => peer c 2
  | 2 => peer c 0
  | 3 => peer c 1
theorem offO_eq : ∀ (c : Dev nD) (j : Fin 4), offO c j = ![(rowDev c j).val * 1024, 0] := by decide +kernel

/-- The weight matrices of device `c`, by layer. -/
def winOf : ℕ → Dev nD → FVec Ideal S2048x4096 .f32
  | 0, c => m ((c : Thread nD τ).loc main_arg1)
  | 1, c => m ((c : Thread nD τ).loc main_arg2)
  | _, c => m ((c : Thread nD τ).loc main_arg3)
def woutOf : ℕ → Dev nD → FVec Ideal S4096x2048 .f32
  | 0, c => m ((c : Thread nD τ).loc main_arg4)
  | 1, c => m ((c : Thread nD τ).loc main_arg5)
  | _, c => m ((c : Thread nD τ).loc main_arg6)

def colsOf (ℓ : ℕ) (c : Dev nD) (j : Fin 4) : FVec Ideal S2048x1024 .f32 :=
  (winWin (aWin ℓ) c j).view.read (Elt Ideal) (m ((winWin (aWin ℓ) c j).view.loc (c : Thread nD τ)))
def rowsOf (ℓ : ℕ) (c : Dev nD) (j : Fin 4) : FVec Ideal S1024x2048 .f32 :=
  (woutWin (aWout ℓ) c j).view.read (Elt Ideal) (m ((woutWin (aWout ℓ) c j).view.loc (c : Thread nD τ)))

theorem wt_eq (ℓ : ℕ) (c : Dev nD) (j : Fin 4) : wt m ℓ c j = upW (colsOf m ℓ c j) := rfl
theorem wo_eq (ℓ : ℕ) (c : Dev nD) (j : Fin 4) : wo m ℓ c j = upO (rowsOf m ℓ c j) := rfl

theorem rectW_at (c : Dev nD) (j : Fin 4) (k : Fin 2048) (n : Fin 1024) :
    (Rect.unit (s := S2048x4096) (offW c j) S2048x1024.size (offW_inb c j)).emb (ix2 k n) = ix2 k (hpos (shift c (j.val + 1)) n) := by
  have h := offW_eq c j
  funext a; apply Fin.ext
  match a with
  | ⟨0, _⟩ =>
    show offW c j 0 + 1 * k.val = k.val
    rw [h]; show 0 + 1 * k.val = k.val; omega
  | ⟨1, _⟩ =>
    show offW c j 1 + 1 * n.val = (shift c (j.val + 1)).val * 1024 + n.val
    rw [h]; show (shift c (j.val + 1)).val * 1024 + 1 * n.val = _; omega

theorem rectO_at (c : Dev nD) (j : Fin 4) (e : Fin 1024) (q : Fin 2048) :
    (Rect.unit (s := S4096x2048) (offO c j) S1024x2048.size (offO_inb c j)).emb (ix2 e q) = ix2 (hpos (rowDev c j) e) q := by
  have h := offO_eq c j
  funext a; apply Fin.ext
  match a with
  | ⟨0, _⟩ =>
    show offO c j 0 + 1 * e.val = (rowDev c j).val * 1024 + e.val
    rw [h]; show (rowDev c j).val * 1024 + 1 * e.val = _; omega
  | ⟨1, _⟩ =>
    show offO c j 1 + 1 * q.val = q.val
    rw [h]; show 0 + 1 * q.val = q.val; omega

theorem colsOf_at (ℓ : ℕ) (c : Dev nD) (j : Fin 4) (k : Fin 2048) (n : Fin 1024) :
    colsOf m ℓ c j (ix2 k n) = winOf m ℓ c (ix2 k (hpos (shift c (j.val + 1)) n)) := by
  rw [← rectW_at]
  match ℓ with
  | 0 => rfl
  | 1 => rfl
  | _ + 2 => rfl

theorem rowsOf_at (ℓ : ℕ) (c : Dev nD) (j : Fin 4) (e : Fin 1024) (q : Fin 2048) :
    rowsOf m ℓ c j (ix2 e q) = woutOf m ℓ c (ix2 (hpos (rowDev c j) e) q) := by
  rw [← rectO_at]
  match ℓ with
  | 0 => rfl
  | 1 => rfl
  | _ + 2 => rfl

/-! ## A layer on the four devices -/

section OverX

variable (ℓ : ℕ) (X : Dev nD → FVec Ideal S64x2048 .f32)

/-- Device `d`'s share of place `n` of block `c` of the hidden layer. -/
def term (d c : Dev nD) (r : Fin 64) (n : Fin 1024) : EReal := ∑ k : Fin 2048, X d (ix2 r k) * winOf m ℓ d (ix2 k (hpos c n))

theorem own_at (c : Dev nD) (r : Fin 64) (n : Fin 1024) : ownX m ℓ X c (ix2 r n) = term m ℓ X c c r n := by
  unfold ownX term
  rw [wt_eq, pay5_at]
  refine Finset.sum_congr rfl fun k _ => ?_
  rw [colsOf_at, show shift c ((3 : Fin 4).val + 1) = c from by revert c; decide]

theorem part_at (d : Dev nD) (k : Fin 3) (r : Fin 64) (n : Fin 1024) :
    shapeCast S64x1024 (partX m ℓ X d k) shapeCasts_S1x64x1024_S64x1024 (ix2 r n) = term m ℓ X d (peer d k) r n := by
  unfold partX term
  rw [wt_eq, pay2_at]
  refine Finset.sum_congr rfl fun i _ => ?_
  rw [colsOf_at]; rfl

theorem got_at (c : Dev nD) (k : Fin 3) (r : Fin 64) (n : Fin 1024) :
    shapeCast S64x1024 (gotX m ℓ X c k) shapeCasts_S1x64x1024_S64x1024 (ix2 r n) = term m ℓ X (peer c k.rev) c r n := by
  unfold gotX
  rw [part_at, show peer (peer c k.rev) k = c from by revert c k; decide]

theorem hid_at (c : Dev nD) (r : Fin 64) (n : Fin 1024) : hidX m ℓ X c (ix2 r n) = max (∑ d, term m ℓ X d c r n) 0 := by
  unfold hidX
  rw [pay6_at, own_at, got_at, got_at, got_at]
  exact congrArg (max · 0) (ring_sum (fun d => term m ℓ X d c r n) c)

theorem sent_at (c : Dev nD) (i : S64x1024.Idx) : sentX m ℓ X c i = hidX m ℓ X c i := by
  unfold sentX hidX
  exact pay7_eq _ _ _ _ _

/-- The share of block `d` of the hidden layer in place `q` of device `c`'s output. -/
def piece (c d : Dev nD) (r : Fin 64) (q : Fin 2048) : EReal := ∑ e : Fin 1024, hidX m ℓ X d (ix2 r e) * woutOf m ℓ c (ix2 (hpos d e) q)

theorem sum_sent (c d : Dev nD) (j : Fin 4) (hj : rowDev c j = d) (r : Fin 64) (q : Fin 2048) :
    (∑ e : Fin 1024, sentX m ℓ X d (ix2 r e) * rowsOf m ℓ c j (ix2 e q)) = piece m ℓ X c d r q := by
  unfold piece
  refine Finset.sum_congr rfl fun e _ => ?_
  rw [sent_at, rowsOf_at, hj]

theorem out_at (c : Dev nD) (r : Fin 64) (q : Fin 2048) : outX m ℓ X c (ix2 r q) = ∑ d, piece m ℓ X c d r q := by
  unfold outX hgotX
  rw [wo_eq, wo_eq, wo_eq, wo_eq, pay18_at, pay18_at, pay18_at, pay8_at]
  rw [sum_sent m ℓ X c (peer c (Fin.rev 0)) 1 rfl, sum_sent m ℓ X c (peer c (Fin.rev 2)) 2 rfl, sum_sent m ℓ X c (peer c (Fin.rev 1)) 3 rfl]
  rw [show (∑ e : Fin 1024, hidX m ℓ X c (ix2 r e) * rowsOf m ℓ c 0 (ix2 e q)) = piece m ℓ X c c r q from
    Finset.sum_congr rfl fun e _ => by rw [rowsOf_at]; rfl]
  refine Eq.trans ?_ (ring_sum (fun d => piece m ℓ X c d r q) c)
  show piece m ℓ X c c r q + piece m ℓ X c (peer c 2) r q + piece m ℓ X c (peer c 0) r q + piece m ℓ X c (peer c 1) r q
    = piece m ℓ X c c r q + (piece m ℓ X c (peer c 2) r q + piece m ℓ X c (peer c 1) r q + piece m ℓ X c (peer c 0) r q)
  rw [add_right_comm _ (piece m ℓ X c (peer c 0) r q), add_assoc (piece m ℓ X c c r q), add_assoc (piece m ℓ X c c r q)]

end OverX

/-! ## The same layer on whole arrays -/

abbrev WX : Shape := ⟨2, ![64, 8192]⟩
abbrev WW : Shape := ⟨2, ![8192, 4096]⟩
abbrev WV : Shape := ⟨2, ![4096, 8192]⟩

/-- The hidden layer, and the output. -/
def hidV (x : FVec Ideal WX .f32) (w : FVec Ideal WW .f32) (r : Fin 64) (n : Fin 4096) : EReal :=
  max (∑ k : Fin 8192, x (ix2 r k) * w (ix2 k n)) 0
def outV (x : FVec Ideal WX .f32) (w : FVec Ideal WW .f32) (v : FVec Ideal WV .f32) : FVec Ideal WX .f32 :=
  fun i => ∑ n : Fin 4096, hidV x w (i 0) n * v (ix2 n (i 1))

theorem blockX_at (c : Fin 4) (x : FVec Ideal WX .f32) (r : Fin 64) (k : Fin 2048) :
    Layout.block (⟨2, ![64, 2048]⟩ : Shape) WX 1 4 c x (by decide) (ix2 r k) = x (ix2 r (xpos c k)) := by
  refine congrArg x (funext fun a => Fin.ext ?_)
  match a with
  | ⟨0, _⟩ => rfl
  | ⟨1, _⟩ => rfl
theorem blockW_at (c : Fin 4) (w : FVec Ideal WW .f32) (k : Fin 2048) (n : Fin 4096) :
    Layout.block (⟨2, ![2048, 4096]⟩ : Shape) WW 0 4 c w (by decide) (ix2 k n) = w (ix2 (xpos c k) n) := by
  refine congrArg w (funext fun a => Fin.ext ?_)
  match a with
  | ⟨0, _⟩ => rfl
  | ⟨1, _⟩ => rfl
theorem blockV_at (c : Fin 4) (v : FVec Ideal WV .f32) (n : Fin 4096) (q : Fin 2048) :
    Layout.block (⟨2, ![4096, 2048]⟩ : Shape) WV 1 4 c v (by decide) (ix2 n q) = v (ix2 n (xpos c q)) := by
  refine congrArg v (funext fun a => Fin.ext ?_)
  match a with
  | ⟨0, _⟩ => rfl
  | ⟨1, _⟩ => rfl

/-- On devices that hold the blocks of whole arrays, a layer leaves the blocks of the whole layer's output. -/
theorem out_block (ℓ : ℕ) (X : Dev nD → FVec Ideal S64x2048 .f32) (x : FVec Ideal WX .f32) (w : FVec Ideal WW .f32) (v : FVec Ideal WV .f32)
    (hX : ∀ c, X c = Layout.block (⟨2, ![64, 2048]⟩ : Shape) WX 1 4 c x (by decide))
    (hW : ∀ c, winOf m ℓ c = Layout.block (⟨2, ![2048, 4096]⟩ : Shape) WW 0 4 c w (by decide))
    (hV : ∀ c, woutOf m ℓ c = Layout.block (⟨2, ![4096, 2048]⟩ : Shape) WV 1 4 c v (by decide)) (c : Dev nD) :
    outX m ℓ X c = Layout.block (⟨2, ![64, 2048]⟩ : Shape) WX 1 4 c (outV x w v) (by decide) := by
  have hid : ∀ (d : Dev nD) (r : Fin 64) (e : Fin 1024), hidX m ℓ X d (ix2 r e) = hidV x w r (hpos d e) := fun d r e => by
    rw [hid_at]
    unfold hidV
    rw [sum_blocks (n := 2048) rfl (fun k => x (ix2 r k) * w (ix2 k (hpos d e))) xpos fun _ _ => rfl]
    refine congrArg (max · 0) (Finset.sum_congr rfl fun d' _ => Finset.sum_congr rfl fun k _ => ?_)
    rw [hX, hW, blockX_at, blockW_at]
  funext i
  obtain ⟨r, q, rfl⟩ : ∃ (r : Fin 64) (q : Fin 2048), i = ix2 r q := ⟨i 0, i 1, eq_ix2 i⟩
  rw [out_at, blockX_at]
  show _ = ∑ n : Fin 4096, hidV x w r n * v (ix2 n (xpos c q))
  rw [sum_blocks (n := 1024) rfl (fun n => hidV x w r n * v (ix2 n (xpos c q))) hpos fun _ _ => rfl]
  refine Finset.sum_congr rfl fun d _ => Finset.sum_congr rfl fun e _ => ?_
  rw [hid, hV, blockV_at]

end Cert.KernelIdeal.Mlp

end
-- ==== Proof.Agree.lean ====
/-
# The kernel's result is the reference's

Three layers, on device blocks and on whole arrays.
-/
module

public import proofs.«01_k».proof.Proof.Values
public import proofs.«01_k».proof.Proof.Gen.ReferenceIdeal
public import proofs.«01_k».proof.Proof.Gen.ReferenceIdeal.Run
public import Idealize.ShloMosaic.Lib.KernelVsHost

@[expose] public section

noncomputable section

namespace Cert.KernelIdeal.Mlp

open Cert.KernelIdeal Cert.KernelIdeal.Gen

open Idealize.ShloMosaic hiding ix2 eq_ix2
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! ## The reference -/

section Reference

open Cert.ReferenceIdeal (dot_S64x8192_S8192x4096_S64x4096_1_0_0_1_n_n dot_S64x4096_S4096x8192_S64x8192_1_0_0_1_n_n)

theorem refW (x : FVec Ideal WX .f32) (w : FVec Ideal WW .f32) (r : Fin 64) (n : Fin 4096) :
    Host.dotGeneral dot_S64x8192_S8192x4096_S64x4096_1_0_0_1_n_n none x w (ix2 r n) = ∑ k : Fin 8192, x (ix2 r k) * w (ix2 k n) := by
  rw [← matmul_zero_eq_dotGeneral]
  refine (Ideal.matmul_plain_apply (M := 64) (K := 8192) (N := 4096) none x w _ r n).trans ?_
  rw [constant_apply, Ideal.ofBits_zero_f32, zero_add]

theorem refV (h : FVec Ideal ⟨2, ![64, 4096]⟩ .f32) (v : FVec Ideal WV .f32) (r : Fin 64) (q : Fin 8192) :
    Host.dotGeneral dot_S64x4096_S4096x8192_S64x8192_1_0_0_1_n_n none h v (ix2 r q) = ∑ n : Fin 4096, h (ix2 r n) * v (ix2 n q) := by
  rw [← matmul_zero_eq_dotGeneral]
  refine (Ideal.matmul_plain_apply (M := 64) (K := 4096) (N := 8192) none h v _ r q).trans ?_
  rw [constant_apply, Ideal.ofBits_zero_f32, zero_add]

/-- A layer of the reference. -/
theorem ref_layer (x : FVec Ideal WX .f32) (w : FVec Ideal WW .f32) (v : FVec Ideal WV .f32) :
    Host.dotGeneral dot_S64x4096_S4096x8192_S64x8192_1_0_0_1_n_n none
      (maximumf (Host.dotGeneral dot_S64x8192_S8192x4096_S64x4096_1_0_0_1_n_n none x w)
        (broadcastInDim Cert.ReferenceIdeal.S64x4096 ![] Cert.ReferenceIdeal.Facts₀.bcast_S_S64x4096 (constant Cert.ReferenceIdeal.S_ .f32 0x00000000#32))) v
      = outV x w v := by
  funext i
  obtain ⟨r, q, rfl⟩ : ∃ (r : Fin 64) (q : Fin 8192), i = ix2 r q := ⟨i 0, i 1, eq_ix2 i⟩
  rw [refV]
  show _ = ∑ n : Fin 4096, hidV x w r n * v (ix2 n q)
  refine Finset.sum_congr rfl fun n _ => congrArg (· * v (ix2 n q)) ?_
  rw [maximumf_apply, refW]
  show max _ (Ideal.ofBits .f32 0x00000000#32) = _
  rw [Ideal.ofBits_zero_f32]
  rfl

end Reference

abbrev RefMem : Type := (ℓ : Loc Cert.ReferenceIdeal.nD Cert.ReferenceIdeal.τ Cert.ReferenceIdeal.sig) → Buf (Elt Ideal) ℓ
abbrev refLoc (b : Ref Cert.ReferenceIdeal.sig .tc) : Loc Cert.ReferenceIdeal.nD Cert.ReferenceIdeal.τ Cert.ReferenceIdeal.sig :=
  ((0 : Dev Cert.ReferenceIdeal.nD).tc : Thread Cert.ReferenceIdeal.nD Cert.ReferenceIdeal.τ).loc b

/-- What the reference returns. -/
def refOut (m' : RefMem) : Buf (Elt Ideal) (refLoc Cert.ReferenceIdeal.main_v11) :=
  outV (outV (outV (m' (refLoc Cert.ReferenceIdeal.main_arg0)) (m' (refLoc Cert.ReferenceIdeal.main_arg1)) (m' (refLoc Cert.ReferenceIdeal.main_arg4)))
    (m' (refLoc Cert.ReferenceIdeal.main_arg2)) (m' (refLoc Cert.ReferenceIdeal.main_arg5)))
    (m' (refLoc Cert.ReferenceIdeal.main_arg3)) (m' (refLoc Cert.ReferenceIdeal.main_arg6))

/-- A run of the reference ends with its result. -/
theorem ref_run (m' : RefMem) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem (refLoc Cert.ReferenceIdeal.main_v11) = refOut m'
      ∧ r.2.mem (refLoc Cert.ReferenceIdeal.main_arg0) = m' (refLoc Cert.ReferenceIdeal.main_arg0)
      ∧ r.2.mem (refLoc Cert.ReferenceIdeal.main_arg1) = m' (refLoc Cert.ReferenceIdeal.main_arg1)
      ∧ r.2.mem (refLoc Cert.ReferenceIdeal.main_arg2) = m' (refLoc Cert.ReferenceIdeal.main_arg2)
      ∧ r.2.mem (refLoc Cert.ReferenceIdeal.main_arg3) = m' (refLoc Cert.ReferenceIdeal.main_arg3)
      ∧ r.2.mem (refLoc Cert.ReferenceIdeal.main_arg4) = m' (refLoc Cert.ReferenceIdeal.main_arg4)
      ∧ r.2.mem (refLoc Cert.ReferenceIdeal.main_arg5) = m' (refLoc Cert.ReferenceIdeal.main_arg5)
      ∧ r.2.mem (refLoc Cert.ReferenceIdeal.main_arg6) = m' (refLoc Cert.ReferenceIdeal.main_arg6)) :=
  (θ_run Cert.ReferenceIdeal.defs _ _).mono
    (fun _ h => ⟨(h 0).1.trans (by rw [ref_layer, ref_layer, ref_layer]; rfl), (h 0).2⟩)
    (Cert.ReferenceIdeal.Value.run (F := Ideal) m' ρ')

/-! ## The kernel -/

theorem xstg_eq {F : FTy → Type} [FloatOps F] (m : (ℓ : Loc nD τ sig) → Buf (Elt F) ℓ) (ρ : Dev nD → PrngReg) (c : Dev nD) :
    xstg m ρ c = m ((c : Thread nD τ).loc main_arg0) := by
  funext i
  refine congrArg (m ((c : Thread nD τ).loc main_arg0)) (funext fun a => Fin.ext ?_)
  match a with
  | ⟨0, _⟩ => show 0 * 64 + 1 * (i 0).val = (i 0).val; omega
  | ⟨1, _⟩ => show 0 * 2048 + 1 * (i 1).val = (i 1).val; omega

/-- On devices that hold the blocks of the reference's arguments, the third layer leaves the blocks of its result. -/
theorem kernel_eq (m : (ℓ : Loc nD τ sig) → Buf (Elt Ideal) ℓ) (ρ : Dev nD → PrngReg) (m' : RefMem)
    (hagree : ∀ c : Dev nD,
      m ((c.tc : Thread nD τ).loc main_arg0) = Layout.block ⟨2, ![64, 2048]⟩ ⟨2, ![64, 8192]⟩ 1 4 c (m' (refLoc Cert.ReferenceIdeal.main_arg0))
      ∧ m ((c.tc : Thread nD τ).loc main_arg1) = Layout.block ⟨2, ![2048, 4096]⟩ ⟨2, ![8192, 4096]⟩ 0 4 c (m' (refLoc Cert.ReferenceIdeal.main_arg1))
      ∧ m ((c.tc : Thread nD τ).loc main_arg2) = Layout.block ⟨2, ![2048, 4096]⟩ ⟨2, ![8192, 4096]⟩ 0 4 c (m' (refLoc Cert.ReferenceIdeal.main_arg2))
      ∧ m ((c.tc : Thread nD τ).loc main_arg3) = Layout.block ⟨2, ![2048, 4096]⟩ ⟨2, ![8192, 4096]⟩ 0 4 c (m' (refLoc Cert.ReferenceIdeal.main_arg3))
      ∧ m ((c.tc : Thread nD τ).loc main_arg4) = Layout.block ⟨2, ![4096, 2048]⟩ ⟨2, ![4096, 8192]⟩ 1 4 c (m' (refLoc Cert.ReferenceIdeal.main_arg4))
      ∧ m ((c.tc : Thread nD τ).loc main_arg5) = Layout.block ⟨2, ![4096, 2048]⟩ ⟨2, ![4096, 8192]⟩ 1 4 c (m' (refLoc Cert.ReferenceIdeal.main_arg5))
      ∧ m ((c.tc : Thread nD τ).loc main_arg6) = Layout.block ⟨2, ![4096, 2048]⟩ ⟨2, ![4096, 8192]⟩ 1 4 c (m' (refLoc Cert.ReferenceIdeal.main_arg6)))
    (c : Dev nD) : xin m ρ 3 c = Layout.block ⟨2, ![64, 2048]⟩ ⟨2, ![64, 8192]⟩ 1 4 c (refOut m') := by
  have h0 := fun c => (xstg_eq m ρ c).trans (hagree c).1
  have h1 := out_block m 0 (xin m ρ 0) _ _ _ h0 (fun c => (hagree c).2.1) (fun c => (hagree c).2.2.2.2.1)
  have h2 := out_block m 1 (xin m ρ 1) _ _ _ h1 (fun c => (hagree c).2.2.1) (fun c => (hagree c).2.2.2.2.2.1)
  exact out_block m 2 (xin m ρ 2) _ _ _ h2 (fun c => (hagree c).2.2.2.1) (fun c => (hagree c).2.2.2.2.2.2) c

end Cert.KernelIdeal.Mlp

end
-- ==== Proof.lean ====
/- The claims about the three-layer MLP on four devices, put together.
   The run of the kernel is proved once, for any float values, in Proof/Launch.lean; the reference's run is the
   generated one; that the two results agree is Proof/Agree.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Agree
public import Idealize.ShloMosaic.Adequacy
public import Idealize.ShloMosaic.Init
public import Idealize.ShloMosaic.Lib.Quiescent

@[expose] public section

noncomputable section

namespace Cert.Proof

open Idealize.ShloMosaic Idealize.SL.Sem

/-- What a final state of the kernel holds of the arguments and the semaphores, for any float values. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ Cert.KernelIdeal.Mlp.Kept m c r.2)
      ∧ r.2.sem = fun _ => 0) :=
  (θ_run Cert.KernelIdeal.defs _ _).mono (fun _ h => ⟨fun c => (h.1 c).2, h.2⟩) (Cert.KernelIdeal.Mlp.run_main m ρ)

set_option maxRecDepth 100000 in
/-- The two printed modules are one text: their bodies agree, and so do their tables of bodies. -/
theorem body_table {F : FTy → Type} [FloatOps F] : (Cert.Kernel.defs₀ (F := F)) = (Cert.KernelIdeal.defs₀ (F := F)) := by
  unfold Cert.Kernel.defs₀ Cert.KernelIdeal.defs₀
  congr 1
  funext k a
  match k, a with
  | 0, (t, s) => dsimp only; unfold Cert.Kernel.cc0_body Cert.KernelIdeal.cc0_body; rfl

set_option maxRecDepth 100000 in
theorem whole_table {F : FTy → Type} [FloatOps F] : (Cert.Kernel.defs (F := F)) = (Cert.KernelIdeal.defs (F := F)) := by
  unfold Cert.Kernel.defs Cert.KernelIdeal.defs
  rw [body_table]; rfl

/-- A run under one table of bodies is a run under an equal one. -/
theorem run_under {nD : ℕ} {τ : Topo} {sig : RefSig} {Val : EltTy → Type} {Λ : Labels} {D D' : Defs nD τ sig Val Λ} (h : D = D')
    {p s Q} (hr : θ_run D' p s Q) : θ_run D p s Q := h ▸ hr

set_option maxRecDepth 100000 in
/-- The kernel at bits: it is the same text as `KernelIdeal`, whose run is proved for any float values. -/
theorem frame_kernel : Cert.quiescent_Kernel := fun m ρ _ => run_under whole_table (frame_any (F := Bits) m ρ)

theorem frame_kernelIdeal : Cert.quiescent_KernelIdeal := fun m ρ _ => frame_any (F := Ideal) m ρ

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals the kernel's result on device `c` is block `c` of the reference's. -/
theorem algebraic : Cert.algebraic_KernelIdeal_ReferenceIdeal := fun m ρ m' ρ' _ hagree =>
  ⟨Cert.KernelIdeal.Mlp.refOut m',
    (θ_run Cert.KernelIdeal.defs _ _).mono
      (fun _ h c => ⟨(h.1 c).1.trans (Cert.KernelIdeal.Mlp.kernel_eq m ρ m' hagree c), (h.1 c).2⟩)
      (Cert.KernelIdeal.Mlp.run_main (F := Ideal) m ρ),
    Cert.KernelIdeal.Mlp.ref_run m' ρ'⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
